-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_exact_entries [hKernelIdeal : Cert.KernelIdeal.Facts] [hReferenceIdeal : Cert.ReferenceIdeal.Facts] [hOn_exact_entries : Cert.On_exact_entries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 8192]⟩ ⟨2, ![1024, 65536]⟩ 1 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 32]⟩ : Shape).Idx, (Cert.On_exact_entries.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v4) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 32]⟩ : Shape).Idx, (Cert.On_exact_entries.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_exact_entries : Cert.On_exact_entries.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_exact_entries (hKernelIdeal := hKernelIdeal) (hReferenceIdeal := hReferenceIdeal) (hOn_exact_entries := hOn_exact_entries)
-- ==== On_exact_entries.lean ====
abbrev S1024x65536 : Shape := ⟨2, ![1024, 65536]⟩
abbrev S1024x32 : Shape := ⟨2, ![1024, 32]⟩
abbrev S1024x31 : Shape := ⟨2, ![1024, 31]⟩
abbrev S32x31 : Shape := ⟨2, ![32, 31]⟩
abbrev S1024x32x31 : Shape := ⟨3, ![1024, 32, 31]⟩
abbrev S_ : Shape := ⟨0, ![]⟩
abbrev S1024x256x256 : Shape := ⟨3, ![1024, 256, 256]⟩
abbrev S1024x256x1 : Shape := ⟨3, ![1024, 256, 1]⟩
abbrev S1024x256 : Shape := ⟨2, ![1024, 256]⟩
abbrev S1024x32x256 : Shape := ⟨3, ![1024, 32, 256]⟩

class Facts : Prop where
  slices_S1024x65536_S1024x32_0_0 : S1024x65536.Slices ![0, 0] S1024x32
  slices_S1024x32_S1024x31_0_1 : S1024x32.Slices ![0, 1] S1024x31
  slices_S1024x32_S1024x31_0_0 : S1024x32.Slices ![0, 0] S1024x31
  bcast_S1024x31_S1024x32x31_0_2 : S1024x31.BroadcastsInDim S1024x32x31 (![0, 2] : Fin 2 → Fin S1024x32x31.rank)
  bcast_S32x31_S1024x32x31_1_2 : S32x31.BroadcastsInDim S1024x32x31 (![1, 2] : Fin 2 → Fin S1024x32x31.rank)
  reducesTo_S1024x32x31_S1024x32_d2 : S1024x32x31.ReducesTo [2] S1024x32
  h_S_ : 0 < S_.numel
  shapeCasts_S1024x65536_S1024x256x256 : S1024x65536.ShapeCasts S1024x256x256
  slices_S1024x256x256_S1024x256x1_0_0_247 : S1024x256x256.Slices ![0, 0, 247] S1024x256x1
  shapeCasts_S1024x256x1_S1024x256 : S1024x256x1.ShapeCasts S1024x256
  bcast_S1024x256_S1024x32x256_0_2 : S1024x256.BroadcastsInDim S1024x32x256 (![0, 2] : Fin 2 → Fin S1024x32x256.rank)
  bcast_S1024x32_S1024x32x256_0_1 : S1024x32.BroadcastsInDim S1024x32x256 (![0, 1] : Fin 2 → Fin S1024x32x256.rank)
  reducesTo_S1024x32x256_S1024x32_d2 : S1024x32x256.ReducesTo [2] S1024x32

variable [Facts]

variable {F : FTy → Type} [FloatOps F]
def comparator_f32_d1 : F .f32 → F .f32 → BitVec 1 :=
  fun l r =>
    let cst := FloatOps.ofBits .f32 0x00000000#32
    let v23 := FloatOps.cmpf .oeq l cst
    let cst_1 := FloatOps.ofBits .f32 0x00000000#32
    let v24 := Scalar.select v23 cst_1 l
    let v25 := FloatOps.cmpf .une l l
    let cst_2 := FloatOps.ofBits .f32 0x7FC00000#32
    let v26 := Scalar.select v25 cst_2 v24
    let cst_3 := FloatOps.ofBits .f32 0x00000000#32
    let v27 := FloatOps.cmpf .oeq r cst_3
    let cst_4 := FloatOps.ofBits .f32 0x00000000#32
    let v28 := Scalar.select v27 cst_4 r
    let v29 := FloatOps.cmpf .une r r
    let cst_5 := FloatOps.ofBits .f32 0x7FC00000#32
    let v30 := Scalar.select v29 cst_5 v28
    let v31 := FloatOps.cmpfTotal .lt v26 v30
    v31
def comparator_f32_d2 : F .f32 → F .f32 → BitVec 1 :=
  fun l r =>
    let cst := FloatOps.ofBits .f32 0x00000000#32
    let v23 := FloatOps.cmpf .oeq l cst
    let cst_1 := FloatOps.ofBits .f32 0x00000000#32
    let v24 := Scalar.select v23 cst_1 l
    let v25 := FloatOps.cmpf .une l l
    let cst_2 := FloatOps.ofBits .f32 0x7FC00000#32
    let v26 := Scalar.select v25 cst_2 v24
    let cst_3 := FloatOps.ofBits .f32 0x00000000#32
    let v27 := FloatOps.cmpf .oeq r cst_3
    let cst_4 := FloatOps.ofBits .f32 0x00000000#32
    let v28 := Scalar.select v27 cst_4 r
    let v29 := FloatOps.cmpf .une r r
    let cst_5 := FloatOps.ofBits .f32 0x7FC00000#32
    let v30 := Scalar.select v29 cst_5 v28
    let v31 := FloatOps.cmpfTotal .lt v26 v30
    v31

def fn_part1 {F : FTy → Type} [FloatOps F] (main_v13 : IVec S1024x32 1) (main_v21 : IVec S1024x32 1) : IVec S1024x32 1 :=
  let main_v22 : IVec S1024x32 1 := andi main_v13 main_v21
  main_v22

def fn {F : FTy → Type} [FloatOps F] (main_arg0 : FVec F S1024x65536 .f32) : IVec S1024x32 1 :=
  let main_v0 : FVec F S1024x65536 .f32 := Host.negf main_arg0
  let main_v1 : FVec F S1024x65536 .f32 := (fun x => Host.sort S1024x65536 1 comparator_f32_d1 x) main_v0
  let main_v2 : FVec F S1024x32 .f32 := (extractStridedSlice S1024x32 ![0, 0] · slices_S1024x65536_S1024x32_0_0) main_v1
  let main_v3 : FVec F S1024x32 .f32 := Host.negf main_v2
  let main_v4 : FVec F S1024x31 .f32 := (extractStridedSlice S1024x31 ![0, 1] · slices_S1024x32_S1024x31_0_1) main_v3
  let main_v5 : FVec F S1024x31 .f32 := (extractStridedSlice S1024x31 ![0, 0] · slices_S1024x32_S1024x31_0_0) main_v3
  let main_v6 : IVec S1024x31 1 := cmpf .olt main_v4 main_v5
  let main_v7 : IVec S32x31 32 := iotaInDim S32x31 32 1
  let main_v8 : IVec S32x31 32 := iotaInDim S32x31 32 0
  let main_v9 : IVec S32x31 1 := cmpi .sge main_v7 main_v8
  let main_v10 : IVec S1024x32x31 1 := broadcastInDim S1024x32x31 ![0, 2] bcast_S1024x31_S1024x32x31_0_2 main_v6
  let main_v11 : IVec S1024x32x31 1 := broadcastInDim S1024x32x31 ![1, 2] bcast_S32x31_S1024x32x31_1_2 main_v9
  let main_v12 : IVec S1024x32x31 1 := ori main_v10 main_v11
  let main_c : IVec S_ 1 := constantI S_ 1 1#1
  let main_v13 : IVec S1024x32 1 := (fun x v => Host.reduce IntOp.andi x v reducesTo_S1024x32x31_S1024x32_d2 h_S_) main_v12 main_c
  let main_v14 : FVec F S1024x256x256 .f32 := shapeCast S1024x256x256 main_arg0 shapeCasts_S1024x65536_S1024x256x256
  let main_v15 : FVec F S1024x256x256 .f32 := (fun x => Host.sort S1024x256x256 2 comparator_f32_d2 x) main_v14
  let main_v16 : FVec F S1024x256x1 .f32 := (extractStridedSlice S1024x256x1 ![0, 0, 247] · slices_S1024x256x256_S1024x256x1_0_0_247) main_v15
  let main_v17 : FVec F S1024x256 .f32 := shapeCast S1024x256 main_v16 shapeCasts_S1024x256x1_S1024x256
  let main_v18 : FVec F S1024x32x256 .f32 := broadcastInDim S1024x32x256 ![0, 2] bcast_S1024x256_S1024x32x256_0_2 main_v17
  let main_v19 : FVec F S1024x32x256 .f32 := broadcastInDim S1024x32x256 ![0, 1] bcast_S1024x32_S1024x32x256_0_1 main_v3
  let main_v20 : IVec S1024x32x256 1 := cmpf .olt main_v18 main_v19
  let main_c_0 : IVec S_ 1 := constantI S_ 1 1#1
  let main_v21 : IVec S1024x32 1 := (fun x v => Host.reduce IntOp.andi x v reducesTo_S1024x32x256_S1024x32_d2 h_S_) main_v20 main_c_0
  fn_part1 (F := F) main_v13 main_v21
-- ==== Kernel.lean ====
abbrev S1024x8192 : Shape := ⟨2, ![1024, 8192]⟩
abbrev S8192x1024 : Shape := ⟨2, ![8192, 1024]⟩
abbrev S32x1024 : Shape := ⟨2, ![32, 1024]⟩
abbrev S8192x256 : Shape := ⟨2, ![8192, 256]⟩
abbrev S32x256 : Shape := ⟨2, ![32, 256]⟩
abbrev S32x256x256 : Shape := ⟨3, ![32, 256, 256]⟩
abbrev S32x1x256 : Shape := ⟨3, ![32, 1, 256]⟩
abbrev S256x256 : Shape := ⟨2, ![256, 256]⟩
abbrev S256 : Shape := ⟨1, ![256]⟩
abbrev S1x256 : Shape := ⟨2, ![1, 256]⟩
abbrev S8x32x1024 : Shape := ⟨3, ![8, 32, 1024]⟩
abbrev S7 : Shape := ⟨1, ![7]⟩
abbrev S_ : Shape := ⟨0, ![]⟩
abbrev S1x32x1024 : Shape := ⟨3, ![1, 32, 1024]⟩
abbrev S1 : Shape := ⟨1, ![1]⟩
abbrev S256x1024 : Shape := ⟨2, ![256, 1024]⟩
abbrev S1024 : Shape := ⟨1, ![1024]⟩
abbrev S1x1024 : Shape := ⟨2, ![1, 1024]⟩
abbrev S1024x32 : Shape := ⟨2, ![1024, 32]⟩

abbrev nBuf : Space → Nat
  | .hbm => 5
  | .vmem => 7
  | .smem => 0
  | _ => 0

abbrev bufTy : (tb : Table) → Fin (tcTables nBuf tb) → BufTy
  | .hbm, ⟨0, _⟩ => ⟨S1024x8192, .f32⟩
  | .hbm, ⟨1, _⟩ => ⟨S8192x1024, .f32⟩
  | .hbm, ⟨2, _⟩ => ⟨S32x1024, .f32⟩
  | .hbm, ⟨3, _⟩ => ⟨S32x1024, .f32⟩
  | .hbm, ⟨4, _⟩ => ⟨S1024x32, .f32⟩
  | .local _ .vmem, ⟨0, _⟩ => ⟨S8192x256, .f32⟩
  | .local _ .vmem, ⟨1, _⟩ => ⟨S8192x256, .f32⟩
  | .local _ .vmem, ⟨2, _⟩ => ⟨S32x256, .f32⟩
  | .local _ .vmem, ⟨3, _⟩ => ⟨S32x256, .f32⟩
  | .local _ .vmem, ⟨4, _⟩ => ⟨S32x1024, .f32⟩
  | .local _ .vmem, ⟨5, _⟩ => ⟨S32x1024, .f32⟩
  | .local _ .vmem, ⟨6, _⟩ => ⟨S8x32x1024, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v4 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev barrier0 : Sem sig := 0

abbrev nD : Nat := 8
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

def k1_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k1_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k1_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v33 : Index := Scalar.indexCast v2
  let c0_20 : Index := 0#32
  let c0_21 : Index := 0#32
  ![v33.toNat, 0, 0]
def k1_off2 (d0 : Dev nD) (c0_i32_22 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.subi v2 c0_i32_22
  let c8_i32_23 : BitVec 32 := 8#32
  let c0_i32_24 : BitVec 32 := 0#32
  let v38 : BitVec 1 := Scalar.cmpi .eq c8_i32_23 c0_i32_24
  let c1_i32_25 : BitVec 32 := 1#32
  let v39 : BitVec 32 := Scalar.select v38 c1_i32_25 c8_i32_23
  let v40 : BitVec 32 := Scalar.remsi v37 v39
  let c0_i32_27 : BitVec 32 := 0#32
  let v42 : BitVec 1 := Scalar.cmpi .slt v40 c0_i32_27
  let c0_i32_28 : BitVec 32 := 0#32
  let v43 : BitVec 1 := Scalar.cmpi .slt v39 c0_i32_28
  let v44 : BitVec 1 := Scalar.xori v42 v43
  let c0_i32_26 : BitVec 32 := 0#32
  let v41 : BitVec 1 := Scalar.cmpi .ne v40 c0_i32_26
  let v45 : BitVec 1 := Scalar.andi v44 v41
  let v46 : BitVec 32 := Scalar.addi v40 v39
  let v47 : BitVec 32 := Scalar.select v45 v46 v40
  let c0_i32_33 : BitVec 32 := 0#32
  let c0_i32_34 : BitVec 32 := 0#32
  ![v47.toNat, 0, 0]
def k1_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31 : BitVec 32 := 1#32
  let v48 : BitVec 32 := Scalar.muli v24 c1_i32_31
  let v49 : BitVec 32 := Scalar.addi c0_i32_32 v48
  v49.toNat
def k1_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_61 : BitVec 32 := 1#32
  let v83 : BitVec 32 := Scalar.muli v24 c1_i32_61
  let v84 : BitVec 32 := Scalar.addi c0_i32_62 v83
  v84.toNat
def k1_dev5 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_91 : BitVec 32 := 1#32
  let v118 : BitVec 32 := Scalar.muli v24 c1_i32_91
  let v119 : BitVec 32 := Scalar.addi c0_i32_92 v118
  v119.toNat
def k1_dev6 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_120 : BitVec 32 := 1#32
  let v153 : BitVec 32 := Scalar.muli v24 c1_i32_120
  let v154 : BitVec 32 := Scalar.addi c0_i32_121 v153
  v154.toNat
def k1_dev7 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_149 : BitVec 32 := 1#32
  let v188 : BitVec 32 := Scalar.muli v24 c1_i32_149
  let v189 : BitVec 32 := Scalar.addi c0_i32_150 v188
  v189.toNat
def k1_dev8 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_178 : BitVec 32 := 1#32
  let v223 : BitVec 32 := Scalar.muli v24 c1_i32_178
  let v224 : BitVec 32 := Scalar.addi c0_i32_179 v223
  v224.toNat
def k1_dev9 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_207 : BitVec 32 := 1#32
  let v258 : BitVec 32 := Scalar.muli v24 c1_i32_207
  let v259 : BitVec 32 := Scalar.addi c0_i32_208 v258
  v259.toNat
abbrev stage1_0 : Fin 1 → Memref sig .tc .vmem S32x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S1024x65536 : Shape := ⟨2, ![1024, 65536]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x65536, .f32⟩
  | .hbm, ⟨1, _⟩ => ⟨S1024x65536, .f32⟩
  | .hbm, ⟨2, _⟩ => ⟨S1024x65536, .i32⟩
  | .hbm, ⟨3, _⟩ => ⟨S1024x65536, .f32⟩
  | .hbm, ⟨4, _⟩ => ⟨S1024x65536, .i32⟩
  | .hbm, ⟨5, _⟩ => ⟨S1024x32, .i32⟩
  | .hbm, ⟨6, _⟩ => ⟨S_, .i32⟩
  | .hbm, ⟨7, _⟩ => ⟨S1024x32, .i32⟩
  | .hbm, ⟨8, _⟩ => ⟨S1024x32, .i1⟩
  | .hbm, ⟨9, _⟩ => ⟨S_, .i32⟩
  | .hbm, ⟨10, _⟩ => ⟨S1024x32, .i32⟩
  | .hbm, ⟨11, _⟩ => ⟨S1024x32, .i32⟩
  | .hbm, ⟨12, _⟩ => ⟨S1024x32, .i32⟩
  | .hbm, ⟨13, _⟩ => ⟨S1024x32x1, .i32⟩
  | .hbm, ⟨14, _⟩ => ⟨S1, .i32⟩
  | .hbm, ⟨15, _⟩ => ⟨S_, .i32⟩
  | .hbm, ⟨16, _⟩ => ⟨S1024x32x1, .i32⟩
  | .hbm, ⟨17, _⟩ => ⟨S1024x32x1, .i1⟩
  | .hbm, ⟨18, _⟩ => ⟨S1x1x1, .i32⟩
  | .hbm, ⟨19, _⟩ => ⟨S1024x32x1, .i32⟩
  | .hbm, ⟨20, _⟩ => ⟨S1024x32x1, .i1⟩
  | .hbm, ⟨21, _⟩ => ⟨S1024x32x1, .i1⟩
  | .hbm, ⟨22, _⟩ => ⟨S_, .i1⟩
  | .hbm, ⟨23, _⟩ => ⟨S1024x32, .i1⟩
  | .hbm, ⟨24, _⟩ => ⟨S1024x32, .f32⟩
  | .hbm, ⟨25, _⟩ => ⟨S_, .f32⟩
  | .hbm, ⟨26, _⟩ => ⟨S1024x32, .f32⟩
  | .hbm, ⟨27, _⟩ => ⟨S1024x32, .f32⟩
  | _, _ => ⟨S1024x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Proto.lean ====
/-
  The protocol of the ring exchange.

  Eight devices stand in a ring: device `c` copies to `nxt c` and receives from `prv c`. Every device keeps an array of
  eight slots. It writes its own candidates in slot `c`, then makes seven hops; hop `h` copies slot `sl c h` (device
  number `c - h` modulo 8) into the same slot of `nxt c`. Before the first copy each device signals both neighbours and
  waits for two signals. The signal to the left neighbour hands over the seven slots that neighbour is going to write.

  Cells of device `c`: the barrier (two units, one from each neighbour), the send semaphore of hop `h` (paid when the
  copy has been read out; the slot comes back) and the receive semaphore of hop `h` (paid by the left neighbour's copy;
  the slot `sl c (h+1)` comes with the contents every device agrees on).
-/
module

public import proofs.«01_k».proof.Defs
public import Idealize.ShloMosaic.Lib.Pipeline.Launch
public import Idealize.ShloMosaic.Lib.Pipeline.Regions
public import Idealize.ShloMosaic.Lib.Pipeline.Kit
public import Idealize.ShloMosaic.Lib.Pipeline.RegionTalk
public import Idealize.ShloMosaic.Lib.Pipeline.RegionArrays
public import Idealize.ShloMosaic.Lib.Rounds
public import Idealize.ShloMosaic.Lib.StableHlo
public import Idealize.ShloMosaic.Lib.Tactic
public import Idealize.ShloMosaic.Lib.Ring
public import Idealize.ShloMosaic.Lib.Writes
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's copy of the rounds algebra beside the ring's, whose duties are named by a Boolean. -/
abbrev UU : Type := UR sig nD τ × URounds (GSem nD τ sig) Bool

local notation "𝕄" => MT nD τ sig Unit (Elt F) ℕ UU ℕ

/-- The pipeline's copy inside the machine's algebra, -/
abbrev EP : Emb (UR sig nD τ) (MT nD τ sig Unit (Elt F) ℕ UU ℕ) := embL
/-- and the ring's. -/
abbrev ER : Emb (URounds (GSem nD τ sig) Bool) (MT nD τ sig Unit (Elt F) ℕ UU ℕ) := embR

/-! ## The ring -/

set_option backward.proofsInPublic true in
/-- The device that `c` copies to, -/
def nxt (c : Dev nD) : Dev nD := ⟨(c.val + 1) % 8, Nat.mod_lt _ (by decide)⟩
set_option backward.proofsInPublic true in
/-- and the one that copies to `c`. -/
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide

/-- The ring as a permutation of the devices. -/
def ring : Dev nD ≃ Dev nD := ⟨nxt, prv, prv_nxt, nxt_prv⟩

set_option backward.proofsInPublic true in
/-- The slot that device `c` forwards at hop `k`: the one of device `c - k`. -/
def sl (c : Dev nD) (k : ℕ) : Fin 8 := ⟨(c.val + 7 * k) % 8, Nat.mod_lt _ (by decide)⟩

theorem sl_zero (c : Dev nD) : sl c 0 = ⟨c.val, c.isLt⟩ := by revert c; decide
theorem sl_nxt (c : Dev nD) (k : ℕ) : sl (nxt c) (k + 1) = sl c k := by
  apply Fin.ext; show ((c.val + 1) % 8 + 7 * (k + 1)) % 8 = (c.val + 7 * k) % 8; omega
theorem sl_prv (c : Dev nD) (k : ℕ) : sl (prv c) k = sl c (k + 1) := by
  rw [← sl_nxt (prv c) k, nxt_prv]
theorem sl_inj (c : Dev nD) : Function.Injective fun k : Fin 8 => sl c k.val := by revert c; decide

theorem dev1_eq (c : Dev nD) : (⟨k1_dev1 c, k1_dev1_lt c⟩ : Dev nD) = prv c := by revert c; decide +kernel
theorem dev2_eq (c : Dev nD) : (⟨k1_dev2 c, k1_dev2_lt c⟩ : Dev nD) = nxt c := by revert c; decide +kernel
theorem dev3_eq (c : Dev nD) : (⟨k1_dev3 c, k1_dev3_lt c⟩ : Dev nD) = nxt c := by revert c; decide +kernel
theorem dev4_eq (c : Dev nD) : (⟨k1_dev4 c, k1_dev4_lt c⟩ : Dev nD) = nxt c := by revert c; decide +kernel
theorem dev5_eq (c : Dev nD) : (⟨k1_dev5 c, k1_dev5_lt c⟩ : Dev nD) = nxt c := by revert c; decide +kernel
theorem dev6_eq (c : Dev nD) : (⟨k1_dev6 c, k1_dev6_lt c⟩ : Dev nD) = nxt c := by revert c; decide +kernel
theorem dev7_eq (c : Dev nD) : (⟨k1_dev7 c, k1_dev7_lt c⟩ : Dev nD) = nxt c := by revert c; decide +kernel
theorem dev8_eq (c : Dev nD) : (⟨k1_dev8 c, k1_dev8_lt c⟩ : Dev nD) = nxt c := by revert c; decide +kernel
theorem dev9_eq (c : Dev nD) : (⟨k1_dev9 c, k1_dev9_lt c⟩ : Dev nD) = nxt c := by revert c; decide +kernel

/-- The offset of the slot that hop `h` copies. -/
theorem off2_eq (c : Dev nD) (h : Fin 7) : k1_off2 c (BitVec.ofNat 32 h.val) = ![(sl c h.val).val, 0, 0] := by
  revert c h; decide +kernel
/-- The offset of the slot a device fills itself. -/
theorem off1_eq (c : Dev nD) : k1_off1 c = ![(sl c 0).val, 0, 0] := by revert c; decide +kernel

/-! ## The slots -/

theorem slot_inb (p : Fin 8) : ∀ a, (![p.val, 0, 0] : Fin 3 → ℕ) a + S1x32x1024.size a ≤ S8x32x1024.size a := by
  revert p; decide

/-- A slot of the gathering buffer. -/
abbrev slotR (p : Fin 8) : Rect S8x32x1024 := Rect.unit (s := S8x32x1024) ![p.val, 0, 0] S1x32x1024.size (slot_inb p)

/-- A slot as the copies name it. -/
abbrev slotM (p : Fin 8) : Memref sig .tc .vmem S32x1024 .f32 :=
  ((Memref.whole cc1_scratch0).slice (slotR p) (fun _ => rfl)).squeeze S32x1024 squeezes_S1x32x1024_S32x1024

/-- What one copy credits. -/
abbrev N : ℕ := (slotM 0).view.dmaCredit
theorem N_pos : 0 < N := View.dmaCredit_pos _ (by decide)
theorem N_slot (p : Fin 8) : (slotM p).view.dmaCredit = N := rfl

/-- The contents of a gathering buffer. -/
abbrev Gath : Type := (cc1_scratch0 : Ref sig .tc).ty.Contents (Elt F)

/-- Device `c` holds slot `p` of its gathering buffer, at contents `f`. -/
def slotPts (c : Dev nD) (p : Fin 8) (f : Gath (F := F)) : sProp 𝕄 :=
  (slotM p).view.loc (c : Thread nD τ) ↦[(slotM p).view.set]{fullShare} f

omit [FloatOps F] in
instance slotPts_storable (c : Dev nD) (p : Fin 8) (f : Gath (F := F)) : BI.Storable (upEmb : UEmb _ 𝕄) (slotPts c p f) := by
  unfold slotPts; infer_instance

omit [FloatOps F] in
/-- A slot rewritten with the same slot of another buffer is that buffer's slot. -/
theorem slot_copy (c : Dev nD) (p : Fin 8) (fd G : Gath (F := F)) :
    ((slotM p).view.loc (c : Thread nD τ) ↦[(slotM p).view.set]{fullShare}
      ((slotM p).view.write (Elt F) fd ((slotM p).view.read (Elt F) G) Finset.univ) : sProp 𝕄) = slotPts c p G := by
  unfold slotPts
  refine pointsTo_congr fun i hi => ?_
  obtain ⟨j, -, rfl⟩ := Finset.mem_map.mp hi
  rw [View.write_emb_of_mem _ _ (Finset.mem_univ j)]; rfl

/-! ## The cells -/

/-- The semaphore of the barrier, -/
abbrev barS : Sem sig := barrier0
/-- of the send of hop `h`, -/
abbrev sendS (h : Fin 7) : DmaSem sig := ⟨6 + h.val, by have := h.isLt; show _ < 20; omega⟩
/-- and of its receipt. -/
abbrev recvS (h : Fin 7) : DmaSem sig := ⟨13 + h.val, by have := h.isLt; show _ < 20; omega⟩

abbrev barCell (c : Dev nD) : GSem nD τ sig := ((c : Thread nD τ), .reg barS)
abbrev sendCell (c : Dev nD) (h : Fin 7) : GSem nD τ sig := ((c : Thread nD τ), .dma (sendS h))
abbrev recvCell (c : Dev nD) (h : Fin 7) : GSem nD τ sig := ((c : Thread nD τ), .dma (recvS h))

/-- What the right neighbour's signal hands to device `c`: the seven slots of `nxt c` that `c` is going to write, and that
    the seven receive cells there are at round 0. -/
def barPay (c : Dev nD) : sProp 𝕄 :=
  bigSep Finset.univ fun h : Fin 7 => iprop((∃ f : Gath (F := F), slotPts (nxt c) (sl c h.val) f) ∗ reached ER (recvCell (nxt c) h) 0)

section Sched
variable (G : Gath (F := F))

/-- The ring's schedule: every cell has one round, the barrier with a duty for either neighbour. -/
def sched : Rounds.Schedule (GSem nD τ sig) Bool 𝕄 where
  duties g r := match g.2 with
    | .reg _ => if r = 0 ∧ g.1.2 = .tc then {false, true} else ∅
    | .dma s => if r = 0 ∧ g.1.2 = .tc ∧ 6 ≤ s.val then {false} else ∅
  unitless _ := False
  amount g _ _ := match g.2 with
    | .reg _ => 1
    | .dma _ => N
  payload g _ d := match g.2 with
    | .reg _ => bif d then iprop(emp) else barPay g.1.1
    | .dma s => if 13 ≤ s.val then slotPts g.1.1 (sl g.1.1 (s.val - 12)) G else slotPts g.1.1 (sl g.1.1 (s.val - 6)) G
  amount_pos g _ _ _ := by
    obtain ⟨t, l⟩ := g
    cases l
    · exact Nat.one_pos
    · exact N_pos

instance sched_payload_storable (g : GSem nD τ sig) (r : ℕ) (d : Bool) :
    BI.Storable (upEmb : UEmb _ 𝕄) ((sched G).payload g r d) := by
  obtain ⟨t, l⟩ := g
  cases l
  · cases d
    · show BI.Storable upEmb (barPay (F := F) t.1)
      unfold barPay; infer_instance
    · show BI.Storable upEmb (iprop(emp) : sProp 𝕄)
      infer_instance
  · rename_i s
    show BI.Storable upEmb (if 13 ≤ s.val then slotPts t.1 (sl t.1 (s.val - 12)) G else slotPts t.1 (sl t.1 (s.val - 6)) G)
    split <;> infer_instance

variable (c : Dev nD) (h : Fin 7)

theorem duties_bar : (sched G).duties (barCell c) 0 = {false, true} :=
  (if_pos ⟨rfl, rfl⟩ : (if 0 = 0 ∧ (barCell c).1.2 = .tc then ({false, true} : Finset Bool) else ∅) = {false, true})
theorem duties_send : (sched G).duties (sendCell c h) 0 = {false} := if_pos ⟨rfl, rfl, Nat.le_add_right ..⟩
theorem duties_recv : (sched G).duties (recvCell c h) 0 = {false} := if_pos ⟨rfl, rfl, by show 6 ≤ 13 + h.val; omega⟩
theorem duties_later (g : GSem nD τ sig) : ∀ r, 1 ≤ r → (sched G).duties g r = ∅ := fun r hr => by
  obtain ⟨t, l⟩ := g
  cases l
  · exact if_neg fun h => by omega
  · exact if_neg fun h => by omega

theorem amount_bar (d : Bool) : (sched G).amount (barCell c) 0 d = 1 := rfl
theorem amount_send (d : Bool) : (sched G).amount (sendCell c h) 0 d = N := rfl
theorem amount_recv (d : Bool) : (sched G).amount (recvCell c h) 0 d = N := rfl

theorem expect_bar : (sched G).expect (barCell c) 0 = 2 := by
  unfold Schedule.expect Schedule.amountOf; rw [duties_bar, Finset.sum_pair (by decide), amount_bar, amount_bar]
theorem expect_send : (sched G).expect (sendCell c h) 0 = N := by
  unfold Schedule.expect Schedule.amountOf; rw [duties_send, Finset.sum_singleton, amount_send]
theorem expect_recv : (sched G).expect (recvCell c h) 0 = N := by
  unfold Schedule.expect Schedule.amountOf; rw [duties_recv, Finset.sum_singleton, amount_recv]

theorem payload_left : (sched G).payload (barCell c) 0 false = barPay c := rfl
theorem payload_right : (sched G).payload (barCell c) 0 true = iprop(emp) := rfl
theorem payload_send : (sched G).payload (sendCell c h) 0 false = slotPts c (sl c h.val) G := by
  show (if 13 ≤ 6 + h.val then _ else slotPts c (sl c (6 + h.val - 6)) G) = _
  rw [if_neg (by omega), Nat.add_sub_cancel_left]
theorem payload_recv : (sched G).payload (recvCell c h) 0 false = slotPts c (sl c (h.val + 1)) G := by
  show (if 13 ≤ 13 + h.val then slotPts c (sl c (13 + h.val - 12)) G else _) = _
  rw [if_pos (by omega), show 13 + h.val - 12 = h.val + 1 by omega]

theorem rest_bar : bigSep ((sched G).duties (barCell c) 0 \ ∅) (fun d => (sched G).payload (barCell c) 0 d) = iprop(barPay c ∗ emp) := by
  rw [Finset.sdiff_empty, duties_bar, bigSep_insert (by decide), bigSep_singleton, payload_left, payload_right]; rfl
theorem rest_send : bigSep ((sched G).duties (sendCell c h) 0 \ ∅) (fun d => (sched G).payload (sendCell c h) 0 d) = slotPts c (sl c h.val) G := by
  rw [Finset.sdiff_empty, duties_send, bigSep_singleton, payload_send]
theorem rest_recv : bigSep ((sched G).duties (recvCell c h) 0 \ ∅) (fun d => (sched G).payload (recvCell c h) 0 d) = slotPts c (sl c (h.val + 1)) G := by
  rw [Finset.sdiff_empty, duties_recv, bigSep_singleton, payload_recv]

end Sched

/-! ## What a device owes; the levels -/

/-- What device `c` owes before hop `k`: the receive credits of the hops from `k` on. -/
def OR (c : Dev nD) (k : ℕ) : CellTallies nD τ sig Unit :=
  ∑ h ∈ Finset.univ.filter (fun h : Fin 7 => k ≤ h.val), tallyAt (recvCell (nxt c) h) () N

theorem OR_step (c : Dev nD) (h : Fin 7) : OR c h.val = OR c (h.val + 1) + tallyAt (recvCell (nxt c) h) () N := by
  unfold OR
  rw [show (Finset.univ.filter fun k : Fin 7 => h.val ≤ k.val) = insert h (Finset.univ.filter fun k : Fin 7 => h.val + 1 ≤ k.val) by
      ext k; simp only [Finset.mem_filter, Finset.mem_univ, true_and, Finset.mem_insert, Fin.ext_iff]; omega,
    Finset.sum_insert (by simp), add_comm]
theorem OR_last (c : Dev nD) : OR c 7 = 0 := by
  unfold OR
  rw [Finset.filter_false_of_mem fun h _ => by have := h.isLt; omega, Finset.sum_empty]

/-- What device `c` owes at launch: that, and a unit to either neighbour's barrier. -/
def O₀ (c : Dev nD) : CellTallies nD τ sig Unit :=
  OR c 0 + tallyAt (barCell (nxt c)) () 1 + tallyAt (barCell (prv c)) () 1

/-- Every cell of a TensorCore has the one index. -/
def L (g : GSem nD τ sig) : Finset Unit := if g.1.2 = .tc then {()} else ∅
/-- The barrier at level 1, the receive cell of hop `h` at `h + 2`, everything else at 0. -/
def lv (g : GSem nD τ sig) (_ : Unit) : ℕ := match g.2 with
  | .reg _ => 1
  | .dma s => if 13 ≤ s.val then s.val - 11 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (h : Fin 7) (u : Unit) : lv (recvCell c h) u = h.val + 2 := by
  show (if 13 ≤ 13 + h.val then 13 + h.val - 11 else 0) = _
  rw [if_pos (by omega)]; omega
theorem lv_send (c : Dev nD) (h : Fin 7) (u : Unit) : lv (sendCell c h) u = 0 := by
  show (if 13 ≤ 6 + h.val then 6 + h.val - 11 else 0) = _
  rw [if_neg (by omega)]
theorem lv_bar (c : Dev nD) (u : Unit) : lv (barCell c) u = 1 := rfl

/-- Where a device owes something for the hops from `k` on. -/
theorem OR_pos {c : Dev nD} {k : ℕ} {g : GSem nD τ sig} {u : Unit} (hg : 0 < OR c k g u) :
    ∃ h : Fin 7, k ≤ h.val ∧ g = recvCell (nxt c) h := by
  unfold OR at hg
  rw [Finset.sum_apply, Finsupp.finset_sum_apply] at hg
  obtain ⟨h, hm, h0⟩ := Finset.exists_ne_zero_of_sum_ne_zero hg.ne'
  refine ⟨h, (Finset.mem_filter.mp hm).2, ?_⟩
  rw [tallyAt_apply] at h0
  by_contra hn
  exact h0 (if_neg fun h' => hn h'.1)

/-- Where a device owes something at launch. -/
theorem O₀_pos {c : Dev nD} {g : GSem nD τ sig} {u : Unit} (hg : 0 < O₀ c g u) :
    (∃ h : Fin 7, g = recvCell (nxt c) h) ∨ g = barCell (nxt c) ∨ g = barCell (prv c) := by
  unfold O₀ at hg
  rw [Pi.add_apply, Finsupp.add_apply, Pi.add_apply, Finsupp.add_apply, tallyAt_apply, tallyAt_apply] at hg
  by_contra hn
  rw [not_or, not_or] at hn
  rw [if_neg (fun h => hn.2.1 h.1), if_neg (fun h => hn.2.2 h.1)] at hg
  obtain ⟨h, -, hh⟩ := OR_pos (c := c) (k := 0) (g := g) (u := u) (by omega)
  exact hn.1 ⟨h, hh⟩

omit [FloatOps F] in
/-- A wait below level `k + 2` is allowed while the hops from `k` on are owed. -/
theorem mayWait_low (c : Dev nD) (k : ℕ) (s : SemLoc sig) (hs : lv ((c : Thread nD τ), s) () < k + 2) :
    (levAts L lv : sProp 𝕄) ⊢ MayWait (c : Thread nD τ) s () (OR c k) :=
  MayOwe.of_cut (L := L) (lev := lv) (lv ((c : Thread nD τ), s) ())
    (fun p hp => by rw [Finset.mem_singleton.mp hp, L_tc]; exact Finset.mem_singleton_self _)
    (fun g u hg => by obtain ⟨h, -, rfl⟩ := OR_pos hg; rw [L_tc]; exact Finset.mem_singleton_self _)
    (fun p hp => by rw [Finset.mem_singleton.mp hp])
    (fun g u hg => by obtain ⟨h, hk, rfl⟩ := OR_pos hg; rw [lv_recv]; omega)

end Cert.Proof
-- ==== Proof.Hop.lean ====
/-
  One hop of the ring: the copy of a slot to the right neighbour, the wait for its read-out and the wait for the slot the
  left neighbour sends. Stated once, for any hop and any device; and what a store or a load of the own slot touches.
-/
module

public import proofs.«01_k».proof.Proof.Proto

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (G : Gath (F := F)) (K : GSem nD τ sig → ℕ)

/-- The invariants of the cells that hop `h` of device `c` touches. -/
def hopInvs (c : Dev nD) (h : Fin 7) : sProp 𝕄 :=
  iprop(cellInv ER (sched G) (K (sendCell c h)) (sendCell c h) ∗ cellInv ER (sched G) (K (recvCell c h)) (recvCell c h)
    ∗ cellInv ER (sched G) (K (recvCell (nxt c) h)) (recvCell (nxt c) h))

instance hopInvs_persistent (c : Dev nD) (h : Fin 7) : BI.Persistent (hopInvs G K c h) := by unfold hopInvs; infer_instance

/-- What device `c` keeps for hop `h`: the invariants, its positions on its two cells, the two tokens it pays with and the
    credit it waits with. -/
def hopGhost (c : Dev nD) (h : Fin 7) : sProp 𝕄 :=
  iprop(hopInvs G K c h ∗ atPos ER (sendCell c h) 0 ∅ 0 ∗ reached ER (sendCell c h) 0 ∗ atPos ER (recvCell c h) 0 ∅ 0
    ∗ dutyTok ER (sendCell c h) 0 false ∗ dutyTok ER (recvCell (nxt c) h) 0 false ∗ cred (tallyAt (recvCell c h) () N))

/-- The landing place of hop `h` of device `c`. -/
def hopLand (c : Dev nD) (h : Fin 7) : sProp 𝕄 :=
  iprop((∃ f : Gath (F := F), slotPts (nxt c) (sl c h.val) f) ∗ reached ER (recvCell (nxt c) h) 0)

/-- A cell whose only round is over is closed, its counter back at zero. -/
theorem close (κ : ℕ) (g : GSem nD τ sig) :
    iprop(cellInv ER (sched G) κ g ∗ atPos ER g (0 + 1) ∅ 0) ⊢ (|={Set.univ}=> semVal g 0 : sProp 𝕄) :=
  Rounds.cell_close ER (sched G) (Set.mem_univ κ) id (duties_later G g)

set_option maxHeartbeats 1600000 in
/-- Hop `h`: from the slot to send and the place to land in, the same slot back, the next one, and both cells at zero. -/
theorem wp_hop (c n : Dev nD) (hn : n = nxt c) (h : Fin 7) (off : Fin 3 → ℕ) (hoff : off = ![(sl c h.val).val, 0, 0])
    (inb : ∀ a, off a + S1x32x1024.size a ≤ S8x32x1024.size a)
    (s₁ s₂ : DmaSem sig) (hs₁ : s₁ = sendS h) (hs₂ : s₂ = recvS h)
    {M : Memref sig .tc .vmem S32x1024 .f32}
    (hM : M = ((Memref.whole cc1_scratch0).slice (Rect.unit (s := S8x32x1024) off S1x32x1024.size inb) (fun _ => rfl)).squeeze S32x1024 squeezes_S1x32x1024_S32x1024)
    {hsc : (M : Memref sig (Dev.tc n : Thread nD τ).2.kind .vmem S32x1024 .f32).view.ref.isScScratch = false}
    {hsrc : M.view.WordExact} {hdst : M.view.WordExact}
    {hsem : DmaTarget.Typed .vmem (.dma s₂) (.remote (Dev.tc n : Thread nD τ) (M : Memref sig .tc .vmem S32x1024 .f32) (.dma s₁) hsc)}
    {h₁ h₂ h₃ h₄ : M.view.WordExact}
    {α : Type} {Q : α → sProp 𝕄} {k : PUnit → Prog (TpuEff nD τ sig (Elt F) Λ₀ .tc) α} (W : Waits sig Unit) :
    iprop(hopGhost G K c h ∗ hopLand c h ∗ slotPts c (sl c h.val) G ∗ levAts L lv ∗ owes (c : Thread nD τ) (OR c h.val) W)
      ⊢ iprop(((semVal (sendCell c h) 0 ∗ semVal (recvCell c h) 0 ∗ slotPts c (sl c h.val) G ∗ slotPts c (sl c (h.val + 1)) G
              ∗ ∃ W', owes (c : Thread nD τ) (OR c (h.val + 1)) W')
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc n : Thread nD τ) M (.dma s₁) hsc) (.dma s₂) hsrc hdst hsem) fun _ =>
                .op (.waitDma2 s₁ M M h₁ h₂) fun _ => .op (.waitDma2 s₂ M M h₃ h₄) k) Q) := by
  subst hn hs₁ hs₂ hoff
  obtain rfl : M = slotM (sl c h.val) := hM
  unfold hopGhost hopLand hopInvs
  iintro ⟨⟨⟨#HIs, #HIr, #HIn⟩, HatS, #HrS, HatR, HtS, HtN, HcR⟩, ⟨⟨%fn, Hn⟩, #HrN⟩, Hs, #Hlev, HO⟩ Hk
  iapply (Rounds.wp_send_pointsTo 𝒱₀ ER (sched G) (c : Thread nD τ) none (c' := (nxt c : Thread nD τ)) (src := slotM (sl c h.val)) (dst := slotM (sl c h.val))
      (sS := .dma (sendS h)) (sem := .dma (recvS h)) (q := fullShare) (fs := G) (κ₁ := K (sendCell c h)) (κ₂ := K (recvCell (nxt c) h))
      (r₁ := 0) (r₂ := 0) (d₁ := false) (d₂ := false) (fd := fn)
      (by rw [duties_send]; exact Finset.mem_singleton_self _) (by rw [duties_recv]; exact Finset.mem_singleton_self _)
      () () N rfl (amount_send G c h false) (amount_recv G (nxt c) h false) (OR c (h.val + 1)) (OR_step c h) (W := W)
      (by rw [payload_send]; exact BI.Entails.refl _)
      (by rw [payload_recv, sl_nxt, slot_copy (nxt c) (sl c h.val) fn G])) $$ [Hs Hn HO HtS HtN]
  · isplitr; · iexact HIs
    isplitr; · iexact HIn
    isplitl [Hs]; · unfold slotPts; iexact Hs
    isplitl [Hn]; · unfold slotPts; iexact Hn
    isplitl [HO]; · iexact HO
    isplitl [HtS]; · iexact HtS
    isplitr; · iexact HrS
    isplitl [HtN]; · iexact HtN
    iexact HrN
  iintro ⟨HcS, HO⟩
  iapply (Rounds.wp_wait_rest_token 𝒱₀ ER (sched G) (c : Thread nD τ) none (κ := K (sendCell c h))
      (wpE_waitDma2_eq (src := slotM (sl c h.val)) (dst := slotM (sl c h.val)) 𝒱₀ (c : Thread nD τ) none Set.univ) (Set.mem_univ _) () (O := OR c (h.val + 1)) (W := W) (R := 0) (m := 0) (T := ∅)
      ((Nat.zero_add _).trans (expect_send G c h).symm)) $$ [HcS HO HatS]
  · isplitr; · iexact HIs
    isplitl [HcS]; · iexact HcS
    isplitl [HO]; · iexact HO
    isplitr; · iapply (mayWait_low c (h.val + 1) (.dma (sendS h)) (by rw [lv_send]; omega)); iexact Hlev
    iexact HatS
  iintro ⟨HO, HatS, -, Hpay⟩
  ihave Hs := (Entails.of_eq (rest_send G c h)) $$ Hpay
  iapply (Rounds.wp_wait_rest_token 𝒱₀ ER (sched G) (c : Thread nD τ) none (κ := K (recvCell c h))
      (wpE_waitDma2_eq (src := slotM (sl c h.val)) (dst := slotM (sl c h.val)) 𝒱₀ (c : Thread nD τ) none Set.univ) (Set.mem_univ _) () (O := OR c (h.val + 1))
      (W := insert (SemLoc.dma (sendS h), ()) W) (R := 0) (m := 0) (T := ∅)
      ((Nat.zero_add _).trans (expect_recv G c h).symm)) $$ [HcR HO HatR]
  · isplitr; · iexact HIr
    isplitl [HcR]; · iexact HcR
    isplitl [HO]; · iexact HO
    isplitr; · iapply (mayWait_low c (h.val + 1) (.dma (recvS h)) (by rw [lv_recv]; omega)); iexact Hlev
    iexact HatR
  iintro ⟨HO, HatR, -, Hpay⟩
  ihave Hr := (Entails.of_eq (rest_recv G c h)) $$ Hpay
  imod (close G (K (sendCell c h)) (sendCell c h)) $$ [HatS] with HzS
  · isplitr; · iexact HIs
    iexact HatS
  imod (close G (K (recvCell c h)) (recvCell c h)) $$ [HatR] with HzR
  · isplitr; · iexact HIr
    iexact HatR
  iapply Hk
  isplitl [HzS]; · iexact HzS
  isplitl [HzR]; · iexact HzR
  isplitl [Hs]; · iexact Hs
  isplitl [Hr]; · iexact Hr
  iexists _; iexact HO

/-! ## The own slot -/

/-- The elements of a slot are those of its rectangle. -/
theorem slot_set (p : Fin 8) : (slotM p).view.set = (slotR p).set := by
  exact (View.set_reshape ((View.whole cc1_scratch0).slice (slotR p)) _).trans (View.set_slice_whole cc1_scratch0 (slotR p))

theorem own_load_sub (p : Fin 8) (off : Fin 3 → ℕ) (hoff : off = ![p.val, 0, 0]) (inb : ∀ a, off a + S1x32x1024.size a ≤ S8x32x1024.size a) :
    (Memref.whole cc1_scratch0).view.setOn (Rect.unit (s := S8x32x1024) off S1x32x1024.size inb).toLoadRect.set ⊆ (slotM p).view.set := by
  subst hoff
  rw [slot_set]
  intro i hi
  obtain ⟨j, hj, rfl⟩ := Finset.mem_map.mp hi
  exact hj

theorem own_store_sub (p : Fin 8) (off : Fin 3 → ℕ) (hoff : off = ![p.val, 0, 0]) (inb : ∀ a, off a + S1x32x1024.size a ≤ S8x32x1024.size a) :
    ((Memref.whole cc1_scratch0).access (Rect.unit (s := S8x32x1024) off S1x32x1024.size inb) : View sig .tc _ _ _).setOn Finset.univ ⊆ (slotM p).view.set := by
  subst hoff
  rw [slot_set, View.setOn_univ]
  show ((View.whole cc1_scratch0).slice (slotR p)).set ⊆ _
  rw [View.set_slice_whole]

/-- Storing in the own slot what `G` has there makes it `G`'s slot. -/
theorem own_stored (c : Dev nD) (p : Fin 8) (off : Fin 3 → ℕ) (hoff : off = ![p.val, 0, 0]) (inb : ∀ a, off a + S1x32x1024.size a ≤ S8x32x1024.size a)
    (f : Gath (F := F)) (w : Vec F S1x32x1024 .f32) (hw : ∀ j, w j = G ((slotR p).emb j)) :
    ((slotM p).view.loc (c : Thread nD τ) ↦[(slotM p).view.set]{fullShare}
      (((Memref.whole cc1_scratch0).access (Rect.unit (s := S8x32x1024) off S1x32x1024.size inb) : View sig .tc _ _ _).write (Elt F) f w Finset.univ) : sProp 𝕄)
      = slotPts c p G := by
  subst hoff
  unfold slotPts
  refine pointsTo_congr fun i hi => ?_
  rw [slot_set] at hi
  obtain ⟨j, rfl⟩ : ∃ j, (slotR p).emb j = i := by
    rw [← Rect.map_emb_univ] at hi
    obtain ⟨j, -, e⟩ := Finset.mem_map.mp hi; exact ⟨j, e⟩
  refine (View.write_emb_of_mem (v := ((Memref.whole cc1_scratch0).access (slotR p) : View sig .tc _ _ _)) f w (Finset.mem_univ j)).trans ?_
  rw [← hw j]; rfl

end Cert.Proof
-- ==== Proof.Values.lean ====
/-
  What the two bodies compute, in closed form: rounds of "take the maximum, then mask everything that reaches it".
-/
module

public import proofs.«01_k».proof.Defs
public import proofs.«01_k».proof.Proof.Gen.KernelIdeal
public import proofs.«01_k».proof.Proof.Gen.KernelIdeal.Skeleton

@[expose] public section

set_option maxRecDepth 65536

noncomputable section

namespace Cert.Proof

open Cert.KernelIdeal Cert.KernelIdeal.Gen
open Idealize.ShloMosaic

variable {F : FTy → Type} [FloatOps F]

/-! ## One round -/

/-- The maximum of every column of the gathered candidates; -/
def mxL (a : FVec F S256x1024 .f32) : FVec F S1024 .f32 :=
  multiReduction .maximumf [0] S1024 a 0xFF800000#32 reduces_S256x1024_S1024 (.inl rfl) rfl
/-- the maxima as one row; -/
def rowL (t : FVec F S1024 .f32) : FVec F S1x1024 .f32 := shapeCast S1x1024 t shapeCasts_S1024_S1x1024
/-- where an entry reaches a row's; -/
def geL (a : FVec F S256x1024 .f32) (r : FVec F S1x1024 .f32) : IVec S256x1024 1 :=
  cmpf .oge a (broadcastTo S256x1024 r broadcasts_S1x1024_S256x1024)
/-- a selection; -/
def selL (m : IVec S256x1024 1) (x y : FVec F S256x1024 .f32) : FVec F S256x1024 .f32 := select m x y
/-- minus infinity everywhere; -/
def negL : FVec F S256x1024 .f32 := broadcast S256x1024 (Scalar.ofBits .f32 0xFF800000#32)
/-- the candidates with everything that reaches its column's maximum masked. -/
def maskL (a : FVec F S256x1024 .f32) : FVec F S256x1024 .f32 := selL (geL a (rowL (mxL a))) negL a
theorem maskL_fold (a : FVec F S256x1024 .f32) : selL (geL a (rowL (mxL a))) negL a = maskL a := rfl
/-- The candidates after `k` rounds. -/
def stL (P : FVec F S256x1024 .f32) : ℕ → FVec F S256x1024 .f32
  | 0 => P
  | k + 1 => maskL (stL P k)
/-- Thirty-two rows on top of each other. -/
def catL (r : Fin 32 → FVec F S1x1024 .f32) : FVec F S32x1024 .f32 :=
  concatenate S32x1024 0 [⟨S1x1024, r 0⟩, ⟨S1x1024, r 1⟩, ⟨S1x1024, r 2⟩, ⟨S1x1024, r 3⟩, ⟨S1x1024, r 4⟩, ⟨S1x1024, r 5⟩, ⟨S1x1024, r 6⟩, ⟨S1x1024, r 7⟩, ⟨S1x1024, r 8⟩, ⟨S1x1024, r 9⟩, ⟨S1x1024, r 10⟩, ⟨S1x1024, r 11⟩, ⟨S1x1024, r 12⟩, ⟨S1x1024, r 13⟩, ⟨S1x1024, r 14⟩, ⟨S1x1024, r 15⟩, ⟨S1x1024, r 16⟩, ⟨S1x1024, r 17⟩, ⟨S1x1024, r 18⟩, ⟨S1x1024, r 19⟩, ⟨S1x1024, r 20⟩, ⟨S1x1024, r 21⟩, ⟨S1x1024, r 22⟩, ⟨S1x1024, r 23⟩, ⟨S1x1024, r 24⟩, ⟨S1x1024, r 25⟩, ⟨S1x1024, r 26⟩, ⟨S1x1024, r 27⟩, ⟨S1x1024, r 28⟩, ⟨S1x1024, r 29⟩, ⟨S1x1024, r 30⟩, ⟨S1x1024, r 31⟩] concatenates_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S32x1024_d0
/-- The maxima of thirty-two rounds. -/
def outL (P : FVec F S256x1024 .f32) : FVec F S32x1024 .f32 := catL ![rowL (mxL (stL P 0)), rowL (mxL (stL P 1)), rowL (mxL (stL P 2)), rowL (mxL (stL P 3)), rowL (mxL (stL P 4)), rowL (mxL (stL P 5)), rowL (mxL (stL P 6)), rowL (mxL (stL P 7)), rowL (mxL (stL P 8)), rowL (mxL (stL P 9)), rowL (mxL (stL P 10)), rowL (mxL (stL P 11)), rowL (mxL (stL P 12)), rowL (mxL (stL P 13)), rowL (mxL (stL P 14)), rowL (mxL (stL P 15)), rowL (mxL (stL P 16)), rowL (mxL (stL P 17)), rowL (mxL (stL P 18)), rowL (mxL (stL P 19)), rowL (mxL (stL P 20)), rowL (mxL (stL P 21)), rowL (mxL (stL P 22)), rowL (mxL (stL P 23)), rowL (mxL (stL P 24)), rowL (mxL (stL P 25)), rowL (mxL (stL P 26)), rowL (mxL (stL P 27)), rowL (mxL (stL P 28)), rowL (mxL (stL P 29)), rowL (mxL (stL P 30)), rowL (mxL (stL P 31))]

/-- The same for the candidates of one column block: the maximum of every column; -/
def mxA (a : FVec F S256x256 .f32) : FVec F S256 .f32 :=
  multiReduction .maximumf [0] S256 a 0xFF800000#32 reduces_S256x256_S256 (.inl rfl) rfl
/-- the maxima as one row; -/
def rowA (t : FVec F S256 .f32) : FVec F S1x256 .f32 := shapeCast S1x256 t shapeCasts_S256_S1x256
/-- where an entry reaches a row's; -/
def geA (a : FVec F S256x256 .f32) (r : FVec F S1x256 .f32) : IVec S256x256 1 :=
  cmpf .oge a (broadcastTo S256x256 r broadcasts_S1x256_S256x256)
/-- a selection; -/
def selA (m : IVec S256x256 1) (x y : FVec F S256x256 .f32) : FVec F S256x256 .f32 := select m x y
/-- minus infinity everywhere; -/
def negA : FVec F S256x256 .f32 := broadcast S256x256 (Scalar.ofBits .f32 0xFF800000#32)
/-- one round. -/
def maskA (a : FVec F S256x256 .f32) : FVec F S256x256 .f32 := selA (geA a (rowA (mxA a))) negA a
theorem maskA_fold (a : FVec F S256x256 .f32) : selA (geA a (rowA (mxA a))) negA a = maskA a := rfl
/-- The candidates after `k` rounds. -/
def stA (P : FVec F S256x256 .f32) : ℕ → FVec F S256x256 .f32
  | 0 => P
  | k + 1 => maskA (stA P k)
/-- Thirty-two rows on top of each other. -/
def catA (r : Fin 32 → FVec F S1x256 .f32) : FVec F S32x256 .f32 :=
  concatenate S32x256 0 [⟨S1x256, r 0⟩, ⟨S1x256, r 1⟩, ⟨S1x256, r 2⟩, ⟨S1x256, r 3⟩, ⟨S1x256, r 4⟩, ⟨S1x256, r 5⟩, ⟨S1x256, r 6⟩, ⟨S1x256, r 7⟩, ⟨S1x256, r 8⟩, ⟨S1x256, r 9⟩, ⟨S1x256, r 10⟩, ⟨S1x256, r 11⟩, ⟨S1x256, r 12⟩, ⟨S1x256, r 13⟩, ⟨S1x256, r 14⟩, ⟨S1x256, r 15⟩, ⟨S1x256, r 16⟩, ⟨S1x256, r 17⟩, ⟨S1x256, r 18⟩, ⟨S1x256, r 19⟩, ⟨S1x256, r 20⟩, ⟨S1x256, r 21⟩, ⟨S1x256, r 22⟩, ⟨S1x256, r 23⟩, ⟨S1x256, r 24⟩, ⟨S1x256, r 25⟩, ⟨S1x256, r 26⟩, ⟨S1x256, r 27⟩, ⟨S1x256, r 28⟩, ⟨S1x256, r 29⟩, ⟨S1x256, r 30⟩, ⟨S1x256, r 31⟩] concatenates_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S32x256_d0
/-- The maxima of thirty-two rounds. -/
def outA (P : FVec F S256x256 .f32) : FVec F S32x256 .f32 := catA ![rowA (mxA (stA P 0)), rowA (mxA (stA P 1)), rowA (mxA (stA P 2)), rowA (mxA (stA P 3)), rowA (mxA (stA P 4)), rowA (mxA (stA P 5)), rowA (mxA (stA P 6)), rowA (mxA (stA P 7)), rowA (mxA (stA P 8)), rowA (mxA (stA P 9)), rowA (mxA (stA P 10)), rowA (mxA (stA P 11)), rowA (mxA (stA P 12)), rowA (mxA (stA P 13)), rowA (mxA (stA P 14)), rowA (mxA (stA P 15)), rowA (mxA (stA P 16)), rowA (mxA (stA P 17)), rowA (mxA (stA P 18)), rowA (mxA (stA P 19)), rowA (mxA (stA P 20)), rowA (mxA (stA P 21)), rowA (mxA (stA P 22)), rowA (mxA (stA P 23)), rowA (mxA (stA P 24)), rowA (mxA (stA P 25)), rowA (mxA (stA P 26)), rowA (mxA (stA P 27)), rowA (mxA (stA P 28)), rowA (mxA (stA P 29)), rowA (mxA (stA P 30)), rowA (mxA (stA P 31))]

/-- The same for the thirty-two pools of one column block: the maximum of every column of every pool; -/
def mxP (a : FVec F S32x256x256 .f32) : FVec F S32x256 .f32 :=
  multiReduction .maximumf [1] S32x256 a 0xFF800000#32 reduces_S32x256x256_S32x256 (.inl rfl) rfl
/-- one row for every pool; -/
def rowP (t : FVec F S32x256 .f32) : FVec F S32x1x256 .f32 := shapeCast S32x1x256 t shapeCasts_S32x256_S32x1x256
/-- where an entry reaches its pool's; -/
def geP (a : FVec F S32x256x256 .f32) (r : FVec F S32x1x256 .f32) : IVec S32x256x256 1 :=
  cmpf .oge a (broadcastTo S32x256x256 r broadcasts_S32x1x256_S32x256x256)
/-- a selection; -/
def selP (m : IVec S32x256x256 1) (x y : FVec F S32x256x256 .f32) : FVec F S32x256x256 .f32 := select m x y
/-- minus infinity everywhere; -/
def negP : FVec F S32x256x256 .f32 := broadcast S32x256x256 (Scalar.ofBits .f32 0xFF800000#32)
/-- one round. -/
def maskP (a : FVec F S32x256x256 .f32) : FVec F S32x256x256 .f32 := selP (geP a (rowP (mxP a))) negP a
theorem maskP_fold (a : FVec F S32x256x256 .f32) : selP (geP a (rowP (mxP a))) negP a = maskP a := rfl
theorem maskP_fold' (a : FVec F S32x256x256 .f32) :
    selP (geP a (rowP (mxP a))) (broadcast S32x256x256 (Scalar.ofBits .f32 0xFF800000#32)) a = maskP a := rfl
/-- The pools after `k` rounds. -/
def stP (P : FVec F S32x256x256 .f32) : ℕ → FVec F S32x256x256 .f32
  | 0 => P
  | k + 1 => maskP (stP P k)
/-- Eight layers of pool maxima on top of each other. -/
def catP (r : Fin 8 → FVec F S32x256 .f32) : FVec F S256x256 .f32 :=
  concatenate S256x256 0 [⟨S32x256, r 0⟩, ⟨S32x256, r 1⟩, ⟨S32x256, r 2⟩, ⟨S32x256, r 3⟩, ⟨S32x256, r 4⟩, ⟨S32x256, r 5⟩, ⟨S32x256, r 6⟩, ⟨S32x256, r 7⟩] concatenates_S32x256_S32x256_S32x256_S32x256_S32x256_S32x256_S32x256_S32x256_S256x256_d0
/-- The maxima of eight rounds. -/
def outP (P : FVec F S32x256x256 .f32) : FVec F S256x256 .f32 := catP ![mxP (stP P 0), mxP (stP P 1), mxP (stP P 2), mxP (stP P 3), mxP (stP P 4), mxP (stP P 5), mxP (stP P 6), mxP (stP P 7)]

/-! ## The payloads, step by step -/

theorem catL_mk (r0 r1 r2 r3 r4 r5 r6 r7 r8 r9 r10 r11 r12 r13 r14 r15 r16 r17 r18 r19 r20 r21 r22 r23 r24 r25 r26 r27 r28 r29 r30 r31 : FVec F S1x1024 .f32) :
    catL ![r0, r1, r2, r3, r4, r5, r6, r7, r8, r9, r10, r11, r12, r13, r14, r15, r16, r17, r18, r19, r20, r21, r22, r23, r24, r25, r26, r27, r28, r29, r30, r31] =
      concatenate S32x1024 0 [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩, ⟨S1x1024, r8⟩, ⟨S1x1024, r9⟩, ⟨S1x1024, r10⟩, ⟨S1x1024, r11⟩, ⟨S1x1024, r12⟩, ⟨S1x1024, r13⟩, ⟨S1x1024, r14⟩, ⟨S1x1024, r15⟩, ⟨S1x1024, r16⟩, ⟨S1x1024, r17⟩, ⟨S1x1024, r18⟩, ⟨S1x1024, r19⟩, ⟨S1x1024, r20⟩, ⟨S1x1024, r21⟩, ⟨S1x1024, r22⟩, ⟨S1x1024, r23⟩, ⟨S1x1024, r24⟩, ⟨S1x1024, r25⟩, ⟨S1x1024, r26⟩, ⟨S1x1024, r27⟩, ⟨S1x1024, r28⟩, ⟨S1x1024, r29⟩, ⟨S1x1024, r30⟩, ⟨S1x1024, r31⟩] concatenates_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S32x1024_d0 := rfl
theorem catA_mk (r0 r1 r2 r3 r4 r5 r6 r7 r8 r9 r10 r11 r12 r13 r14 r15 r16 r17 r18 r19 r20 r21 r22 r23 r24 r25 r26 r27 r28 r29 r30 r31 : FVec F S1x256 .f32) :
    catA ![r0, r1, r2, r3, r4, r5, r6, r7, r8, r9, r10, r11, r12, r13, r14, r15, r16, r17, r18, r19, r20, r21, r22, r23, r24, r25, r26, r27, r28, r29, r30, r31] =
      concatenate S32x256 0 [⟨S1x256, r0⟩, ⟨S1x256, r1⟩, ⟨S1x256, r2⟩, ⟨S1x256, r3⟩, ⟨S1x256, r4⟩, ⟨S1x256, r5⟩, ⟨S1x256, r6⟩, ⟨S1x256, r7⟩, ⟨S1x256, r8⟩, ⟨S1x256, r9⟩, ⟨S1x256, r10⟩, ⟨S1x256, r11⟩, ⟨S1x256, r12⟩, ⟨S1x256, r13⟩, ⟨S1x256, r14⟩, ⟨S1x256, r15⟩, ⟨S1x256, r16⟩, ⟨S1x256, r17⟩, ⟨S1x256, r18⟩, ⟨S1x256, r19⟩, ⟨S1x256, r20⟩, ⟨S1x256, r21⟩, ⟨S1x256, r22⟩, ⟨S1x256, r23⟩, ⟨S1x256, r24⟩, ⟨S1x256, r25⟩, ⟨S1x256, r26⟩, ⟨S1x256, r27⟩, ⟨S1x256, r28⟩, ⟨S1x256, r29⟩, ⟨S1x256, r30⟩, ⟨S1x256, r31⟩] concatenates_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S32x256_d0 := rfl
theorem catP_mk (r0 r1 r2 r3 r4 r5 r6 r7 : FVec F S32x256 .f32) :
    catP ![r0, r1, r2, r3, r4, r5, r6, r7] =
      concatenate S256x256 0 [⟨S32x256, r0⟩, ⟨S32x256, r1⟩, ⟨S32x256, r2⟩, ⟨S32x256, r3⟩, ⟨S32x256, r4⟩, ⟨S32x256, r5⟩, ⟨S32x256, r6⟩, ⟨S32x256, r7⟩] concatenates_S32x256_S32x256_S32x256_S32x256_S32x256_S32x256_S32x256_S32x256_S256x256_d0 := rfl

theorem k0_pay1_step (v220 : FVec F S256x256 .f32) (v222 : FVec F S1x256 .f32) : k0_pay1 v220 v222 = (geA v220 v222) := rfl
theorem k0_pay2_step (v220 : FVec F S256x256 .f32) (v224 : IVec S256x256 1) : k0_pay2 v220 v224 = (selA v224 (negA (F := F)) v220) := rfl
theorem k0_pay3_step (v47 : FVec F S256 .f32) (v53 : FVec F S256 .f32) (v59 : FVec F S256 .f32) (v65 : FVec F S256 .f32) (v71 : FVec F S256 .f32) (v77 : FVec F S256 .f32) (v83 : FVec F S256 .f32) (v89 : FVec F S256 .f32) (v95 : FVec F S256 .f32) (v101 : FVec F S256 .f32) (v107 : FVec F S256 .f32) (v113 : FVec F S256 .f32) (v119 : FVec F S256 .f32) (v125 : FVec F S256 .f32) (v131 : FVec F S256 .f32) (v137 : FVec F S256 .f32) (v143 : FVec F S256 .f32) (v149 : FVec F S256 .f32) (v155 : FVec F S256 .f32) (v161 : FVec F S256 .f32) (v167 : FVec F S256 .f32) (v173 : FVec F S256 .f32) (v179 : FVec F S256 .f32) (v185 : FVec F S256 .f32) (v191 : FVec F S256 .f32) (v197 : FVec F S256 .f32) (v203 : FVec F S256 .f32) (v209 : FVec F S256 .f32) (v215 : FVec F S256 .f32) (v221 : FVec F S256 .f32) (v226 : FVec F S256x256 .f32) : k0_pay3 v47 v53 v59 v65 v71 v77 v83 v89 v95 v101 v107 v113 v119 v125 v131 v137 v143 v149 v155 v161 v167 v173 v179 v185 v191 v197 v203 v209 v215 v221 v226 = catA ![(rowA v47), (rowA v53), (rowA v59), (rowA v65), (rowA v71), (rowA v77), (rowA v83), (rowA v89), (rowA v95), (rowA v101), (rowA v107), (rowA v113), (rowA v119), (rowA v125), (rowA v131), (rowA v137), (rowA v143), (rowA v149), (rowA v155), (rowA v161), (rowA v167), (rowA v173), (rowA v179), (rowA v185), (rowA v191), (rowA v197), (rowA v203), (rowA v209), (rowA v215), (rowA v221), (rowA (mxA v226)), (rowA (mxA (selA (geA v226 (rowA (mxA v226))) (negA (F := F)) v226)))] := (catA_mk _ _ _ _ _ _ _ _ _ _ _ _ _ _ _ _ _ _ _ _ _ _ _ _ _ _ _ _ _ _ _ _).symm
theorem k0_pay5_step (v0 : Vec F S8192x256 .f32) : k0_pay5 v0 = (mxP (k0_pay4 v0)) := rfl
theorem k0_pay6_step (v0 : Vec F S8192x256 .f32) : k0_pay6 v0 = (selP (geP (k0_pay4 v0) (rowP (k0_pay5 v0))) (negP (F := F)) (k0_pay4 v0)) := rfl
theorem k0_pay7_step (v0 : Vec F S8192x256 .f32) : k0_pay7 v0 = (mxP (k0_pay6 v0)) := rfl
theorem k0_pay8_step (v0 : Vec F S8192x256 .f32) : k0_pay8 v0 = (selP (geP (k0_pay6 v0) (rowP (k0_pay7 v0))) (negP (F := F)) (k0_pay6 v0)) := rfl
theorem k0_pay9_step (v0 : Vec F S8192x256 .f32) : k0_pay9 v0 = (mxP (k0_pay8 v0)) := rfl
theorem k0_pay10_step (v0 : Vec F S8192x256 .f32) : k0_pay10 v0 = (selP (geP (k0_pay8 v0) (rowP (k0_pay9 v0))) (negP (F := F)) (k0_pay8 v0)) := rfl
theorem k0_pay11_step (v0 : Vec F S8192x256 .f32) : k0_pay11 v0 = (mxP (k0_pay10 v0)) := rfl
theorem k0_pay12_step (v0 : Vec F S8192x256 .f32) : k0_pay12 v0 = (selP (geP (k0_pay10 v0) (rowP (k0_pay11 v0))) (negP (F := F)) (k0_pay10 v0)) := rfl
theorem k0_pay13_step (v0 : Vec F S8192x256 .f32) : k0_pay13 v0 = (mxP (k0_pay12 v0)) := rfl
theorem k0_pay14_step (v0 : Vec F S8192x256 .f32) : k0_pay14 v0 = (selP (geP (k0_pay12 v0) (rowP (k0_pay13 v0))) (negP (F := F)) (k0_pay12 v0)) := rfl
theorem k0_pay15_step (v0 : Vec F S8192x256 .f32) : k0_pay15 v0 = (mxP (k0_pay14 v0)) := rfl
theorem k0_pay16_step (v0 : Vec F S8192x256 .f32) : k0_pay16 v0 = (selP (geP (k0_pay14 v0) (rowP (k0_pay15 v0))) (negP (F := F)) (k0_pay14 v0)) := rfl
theorem k0_pay17_step (v0 : Vec F S8192x256 .f32) : k0_pay17 v0 = (mxP (k0_pay16 v0)) := rfl
theorem k0_pay18_step (v0 : Vec F S8192x256 .f32) : k0_pay18 v0 = (geP (k0_pay16 v0) (rowP (k0_pay17 v0))) := rfl
theorem k0_pay19_step (v3 : FVec F S32x256 .f32) (v9 : FVec F S32x256 .f32) (v15 : FVec F S32x256 .f32) (v21 : FVec F S32x256 .f32) (v27 : FVec F S32x256 .f32) (v33 : FVec F S32x256 .f32) (v38 : FVec F S32x256x256 .f32) (v39 : FVec F S32x256 .f32) (v42 : IVec S32x256x256 1) (cst_13 : F .f32) : k0_pay19 v3 v9 v15 v21 v27 v33 v38 v39 v42 cst_13 = catP ![v3, v9, v15, v21, v27, v33, v39, (mxP (selP v42 (broadcast S32x256x256 cst_13) v38))] := (catP_mk _ _ _ _ _ _ _ _).symm
theorem k0_pay20_step (v3 : FVec F S32x256 .f32) (v9 : FVec F S32x256 .f32) (v15 : FVec F S32x256 .f32) (v21 : FVec F S32x256 .f32) (v27 : FVec F S32x256 .f32) (v33 : FVec F S32x256 .f32) (v38 : FVec F S32x256x256 .f32) (v39 : FVec F S32x256 .f32) (v42 : IVec S32x256x256 1) (cst_13 : F .f32) : k0_pay20 v3 v9 v15 v21 v27 v33 v38 v39 v42 cst_13 = (mxA (k0_pay19 v3 v9 v15 v21 v27 v33 v38 v39 v42 cst_13)) := rfl
theorem k0_pay21_step (v3 : FVec F S32x256 .f32) (v9 : FVec F S32x256 .f32) (v15 : FVec F S32x256 .f32) (v21 : FVec F S32x256 .f32) (v27 : FVec F S32x256 .f32) (v33 : FVec F S32x256 .f32) (v38 : FVec F S32x256x256 .f32) (v39 : FVec F S32x256 .f32) (v42 : IVec S32x256x256 1) (cst_13 : F .f32) : k0_pay21 v3 v9 v15 v21 v27 v33 v38 v39 v42 cst_13 = (selA (geA (k0_pay19 v3 v9 v15 v21 v27 v33 v38 v39 v42 cst_13) (rowA (k0_pay20 v3 v9 v15 v21 v27 v33 v38 v39 v42 cst_13))) (negA (F := F)) (k0_pay19 v3 v9 v15 v21 v27 v33 v38 v39 v42 cst_13)) := rfl
theorem k0_pay22_step (v3 : FVec F S32x256 .f32) (v9 : FVec F S32x256 .f32) (v15 : FVec F S32x256 .f32) (v21 : FVec F S32x256 .f32) (v27 : FVec F S32x256 .f32) (v33 : FVec F S32x256 .f32) (v38 : FVec F S32x256x256 .f32) (v39 : FVec F S32x256 .f32) (v42 : IVec S32x256x256 1) (cst_13 : F .f32) : k0_pay22 v3 v9 v15 v21 v27 v33 v38 v39 v42 cst_13 = (mxA (k0_pay21 v3 v9 v15 v21 v27 v33 v38 v39 v42 cst_13)) := rfl
theorem k0_pay23_step (v3 : FVec F S32x256 .f32) (v9 : FVec F S32x256 .f32) (v15 : FVec F S32x256 .f32) (v21 : FVec F S32x256 .f32) (v27 : FVec F S32x256 .f32) (v33 : FVec F S32x256 .f32) (v38 : FVec F S32x256x256 .f32) (v39 : FVec F S32x256 .f32) (v42 : IVec S32x256x256 1) (cst_13 : F .f32) : k0_pay23 v3 v9 v15 v21 v27 v33 v38 v39 v42 cst_13 = (selA (geA (k0_pay21 v3 v9 v15 v21 v27 v33 v38 v39 v42 cst_13) (rowA (k0_pay22 v3 v9 v15 v21 v27 v33 v38 v39 v42 cst_13))) (negA (F := F)) (k0_pay21 v3 v9 v15 v21 v27 v33 v38 v39 v42 cst_13)) := rfl
theorem k0_pay24_step (v3 : FVec F S32x256 .f32) (v9 : FVec F S32x256 .f32) (v15 : FVec F S32x256 .f32) (v21 : FVec F S32x256 .f32) (v27 : FVec F S32x256 .f32) (v33 : FVec F S32x256 .f32) (v38 : FVec F S32x256x256 .f32) (v39 : FVec F S32x256 .f32) (v42 : IVec S32x256x256 1) (cst_13 : F .f32) : k0_pay24 v3 v9 v15 v21 v27 v33 v38 v39 v42 cst_13 = (mxA (k0_pay23 v3 v9 v15 v21 v27 v33 v38 v39 v42 cst_13)) := rfl
theorem k0_pay25_step (v3 : FVec F S32x256 .f32) (v9 : FVec F S32x256 .f32) (v15 : FVec F S32x256 .f32) (v21 : FVec F S32x256 .f32) (v27 : FVec F S32x256 .f32) (v33 : FVec F S32x256 .f32) (v38 : FVec F S32x256x256 .f32) (v39 : FVec F S32x256 .f32) (v42 : IVec S32x256x256 1) (cst_13 : F .f32) : k0_pay25 v3 v9 v15 v21 v27 v33 v38 v39 v42 cst_13 = (selA (geA (k0_pay23 v3 v9 v15 v21 v27 v33 v38 v39 v42 cst_13) (rowA (k0_pay24 v3 v9 v15 v21 v27 v33 v38 v39 v42 cst_13))) (negA (F := F)) (k0_pay23 v3 v9 v15 v21 v27 v33 v38 v39 v42 cst_13)) := rfl
theorem k0_pay26_step (v3 : FVec F S32x256 .f32) (v9 : FVec F S32x256 .f32) (v15 : FVec F S32x256 .f32) (v21 : FVec F S32x256 .f32) (v27 : FVec F S32x256 .f32) (v33 : FVec F S32x256 .f32) (v38 : FVec F S32x256x256 .f32) (v39 : FVec F S32x256 .f32) (v42 : IVec S32x256x256 1) (cst_13 : F .f32) : k0_pay26 v3 v9 v15 v21 v27 v33 v38 v39 v42 cst_13 = (mxA (k0_pay25 v3 v9 v15 v21 v27 v33 v38 v39 v42 cst_13)) := rfl
theorem k0_pay27_step (v3 : FVec F S32x256 .f32) (v9 : FVec F S32x256 .f32) (v15 : FVec F S32x256 .f32) (v21 : FVec F S32x256 .f32) (v27 : FVec F S32x256 .f32) (v33 : FVec F S32x256 .f32) (v38 : FVec F S32x256x256 .f32) (v39 : FVec F S32x256 .f32) (v42 : IVec S32x256x256 1) (cst_13 : F .f32) : k0_pay27 v3 v9 v15 v21 v27 v33 v38 v39 v42 cst_13 = (selA (geA (k0_pay25 v3 v9 v15 v21 v27 v33 v38 v39 v42 cst_13) (rowA (k0_pay26 v3 v9 v15 v21 v27 v33 v38 v39 v42 cst_13))) (negA (F := F)) (k0_pay25 v3 v9 v15 v21 v27 v33 v38 v39 v42 cst_13)) := rfl
theorem k0_pay28_step (v3 : FVec F S32x256 .f32) (v9 : FVec F S32x256 .f32) (v15 : FVec F S32x256 .f32) (v21 : FVec F S32x256 .f32) (v27 : FVec F S32x256 .f32) (v33 : FVec F S32x256 .f32) (v38 : FVec F S32x256x256 .f32) (v39 : FVec F S32x256 .f32) (v42 : IVec S32x256x256 1) (cst_13 : F .f32) : k0_pay28 v3 v9 v15 v21 v27 v33 v38 v39 v42 cst_13 = (mxA (k0_pay27 v3 v9 v15 v21 v27 v33 v38 v39 v42 cst_13)) := rfl
theorem k0_pay29_step (v3 : FVec F S32x256 .f32) (v9 : FVec F S32x256 .f32) (v15 : FVec F S32x256 .f32) (v21 : FVec F S32x256 .f32) (v27 : FVec F S32x256 .f32) (v33 : FVec F S32x256 .f32) (v38 : FVec F S32x256x256 .f32) (v39 : FVec F S32x256 .f32) (v42 : IVec S32x256x256 1) (cst_13 : F .f32) : k0_pay29 v3 v9 v15 v21 v27 v33 v38 v39 v42 cst_13 = (selA (geA (k0_pay27 v3 v9 v15 v21 v27 v33 v38 v39 v42 cst_13) (rowA (k0_pay28 v3 v9 v15 v21 v27 v33 v38 v39 v42 cst_13))) (negA (F := F)) (k0_pay27 v3 v9 v15 v21 v27 v33 v38 v39 v42 cst_13)) := rfl
theorem k0_pay30_step (v3 : FVec F S32x256 .f32) (v9 : FVec F S32x256 .f32) (v15 : FVec F S32x256 .f32) (v21 : FVec F S32x256 .f32) (v27 : FVec F S32x256 .f32) (v33 : FVec F S32x256 .f32) (v38 : FVec F S32x256x256 .f32) (v39 : FVec F S32x256 .f32) (v42 : IVec S32x256x256 1) (cst_13 : F .f32) : k0_pay30 v3 v9 v15 v21 v27 v33 v38 v39 v42 cst_13 = (mxA (k0_pay29 v3 v9 v15 v21 v27 v33 v38 v39 v42 cst_13)) := rfl
theorem k0_pay31_step (v3 : FVec F S32x256 .f32) (v9 : FVec F S32x256 .f32) (v15 : FVec F S32x256 .f32) (v21 : FVec F S32x256 .f32) (v27 : FVec F S32x256 .f32) (v33 : FVec F S32x256 .f32) (v38 : FVec F S32x256x256 .f32) (v39 : FVec F S32x256 .f32) (v42 : IVec S32x256x256 1) (cst_13 : F .f32) : k0_pay31 v3 v9 v15 v21 v27 v33 v38 v39 v42 cst_13 = (selA (geA (k0_pay29 v3 v9 v15 v21 v27 v33 v38 v39 v42 cst_13) (rowA (k0_pay30 v3 v9 v15 v21 v27 v33 v38 v39 v42 cst_13))) (negA (F := F)) (k0_pay29 v3 v9 v15 v21 v27 v33 v38 v39 v42 cst_13)) := rfl
theorem k0_pay32_step (v3 : FVec F S32x256 .f32) (v9 : FVec F S32x256 .f32) (v15 : FVec F S32x256 .f32) (v21 : FVec F S32x256 .f32) (v27 : FVec F S32x256 .f32) (v33 : FVec F S32x256 .f32) (v38 : FVec F S32x256x256 .f32) (v39 : FVec F S32x256 .f32) (v42 : IVec S32x256x256 1) (cst_13 : F .f32) : k0_pay32 v3 v9 v15 v21 v27 v33 v38 v39 v42 cst_13 = (mxA (k0_pay31 v3 v9 v15 v21 v27 v33 v38 v39 v42 cst_13)) := rfl
theorem k0_pay33_step (v3 : FVec F S32x256 .f32) (v9 : FVec F S32x256 .f32) (v15 : FVec F S32x256 .f32) (v21 : FVec F S32x256 .f32) (v27 : FVec F S32x256 .f32) (v33 : FVec F S32x256 .f32) (v38 : FVec F S32x256x256 .f32) (v39 : FVec F S32x256 .f32) (v42 : IVec S32x256x256 1) (cst_13 : F .f32) : k0_pay33 v3 v9 v15 v21 v27 v33 v38 v39 v42 cst_13 = (geA (k0_pay31 v3 v9 v15 v21 v27 v33 v38 v39 v42 cst_13) (rowA (k0_pay32 v3 v9 v15 v21 v27 v33 v38 v39 v42 cst_13))) := rfl
theorem k0_pay34_step  : k0_pay34 (F := F) = (negA (F := F)) := rfl
theorem k0_pay35_step (v82 : FVec F S256x256 .f32) (v86 : IVec S256x256 1) (v87 : FVec F S256x256 .f32) : k0_pay35 v82 v86 v87 = (selA v86 v87 v82) := rfl
theorem k0_pay36_step (v82 : FVec F S256x256 .f32) (v86 : IVec S256x256 1) (v87 : FVec F S256x256 .f32) : k0_pay36 v82 v86 v87 = (mxA (k0_pay35 v82 v86 v87)) := rfl
theorem k0_pay37_step (v82 : FVec F S256x256 .f32) (v86 : IVec S256x256 1) (v87 : FVec F S256x256 .f32) : k0_pay37 v82 v86 v87 = (selA (geA (k0_pay35 v82 v86 v87) (rowA (k0_pay36 v82 v86 v87))) (negA (F := F)) (k0_pay35 v82 v86 v87)) := rfl
theorem k0_pay38_step (v82 : FVec F S256x256 .f32) (v86 : IVec S256x256 1) (v87 : FVec F S256x256 .f32) : k0_pay38 v82 v86 v87 = (mxA (k0_pay37 v82 v86 v87)) := rfl
theorem k0_pay39_step (v82 : FVec F S256x256 .f32) (v86 : IVec S256x256 1) (v87 : FVec F S256x256 .f32) : k0_pay39 v82 v86 v87 = (selA (geA (k0_pay37 v82 v86 v87) (rowA (k0_pay38 v82 v86 v87))) (negA (F := F)) (k0_pay37 v82 v86 v87)) := rfl
theorem k0_pay40_step (v82 : FVec F S256x256 .f32) (v86 : IVec S256x256 1) (v87 : FVec F S256x256 .f32) : k0_pay40 v82 v86 v87 = (mxA (k0_pay39 v82 v86 v87)) := rfl
theorem k0_pay41_step (v82 : FVec F S256x256 .f32) (v86 : IVec S256x256 1) (v87 : FVec F S256x256 .f32) : k0_pay41 v82 v86 v87 = (selA (geA (k0_pay39 v82 v86 v87) (rowA (k0_pay40 v82 v86 v87))) (negA (F := F)) (k0_pay39 v82 v86 v87)) := rfl
theorem k0_pay42_step (v82 : FVec F S256x256 .f32) (v86 : IVec S256x256 1) (v87 : FVec F S256x256 .f32) : k0_pay42 v82 v86 v87 = (mxA (k0_pay41 v82 v86 v87)) := rfl
theorem k0_pay43_step (v82 : FVec F S256x256 .f32) (v86 : IVec S256x256 1) (v87 : FVec F S256x256 .f32) : k0_pay43 v82 v86 v87 = (selA (geA (k0_pay41 v82 v86 v87) (rowA (k0_pay42 v82 v86 v87))) (negA (F := F)) (k0_pay41 v82 v86 v87)) := rfl
theorem k0_pay44_step (v82 : FVec F S256x256 .f32) (v86 : IVec S256x256 1) (v87 : FVec F S256x256 .f32) : k0_pay44 v82 v86 v87 = (mxA (k0_pay43 v82 v86 v87)) := rfl
theorem k0_pay45_step (v82 : FVec F S256x256 .f32) (v86 : IVec S256x256 1) (v87 : FVec F S256x256 .f32) : k0_pay45 v82 v86 v87 = (selA (geA (k0_pay43 v82 v86 v87) (rowA (k0_pay44 v82 v86 v87))) (negA (F := F)) (k0_pay43 v82 v86 v87)) := rfl
theorem k0_pay46_step (v82 : FVec F S256x256 .f32) (v86 : IVec S256x256 1) (v87 : FVec F S256x256 .f32) : k0_pay46 v82 v86 v87 = (mxA (k0_pay45 v82 v86 v87)) := rfl
theorem k0_pay47_step (v82 : FVec F S256x256 .f32) (v86 : IVec S256x256 1) (v87 : FVec F S256x256 .f32) : k0_pay47 v82 v86 v87 = (selA (geA (k0_pay45 v82 v86 v87) (rowA (k0_pay46 v82 v86 v87))) (negA (F := F)) (k0_pay45 v82 v86 v87)) := rfl
theorem k0_pay48_step (v82 : FVec F S256x256 .f32) (v86 : IVec S256x256 1) (v87 : FVec F S256x256 .f32) : k0_pay48 v82 v86 v87 = (mxA (k0_pay47 v82 v86 v87)) := rfl
theorem k0_pay49_step (v82 : FVec F S256x256 .f32) (v86 : IVec S256x256 1) (v87 : FVec F S256x256 .f32) : k0_pay49 v82 v86 v87 = (selA (geA (k0_pay47 v82 v86 v87) (rowA (k0_pay48 v82 v86 v87))) (negA (F := F)) (k0_pay47 v82 v86 v87)) := rfl
theorem k0_pay50_step (v82 : FVec F S256x256 .f32) (v86 : IVec S256x256 1) (v87 : FVec F S256x256 .f32) : k0_pay50 v82 v86 v87 = (mxA (k0_pay49 v82 v86 v87)) := rfl
theorem k0_pay51_step (v82 : FVec F S256x256 .f32) (v86 : IVec S256x256 1) (v87 : FVec F S256x256 .f32) : k0_pay51 v82 v86 v87 = (rowA (k0_pay50 v82 v86 v87)) := rfl
theorem k0_pay52_step (v130 : FVec F S256x256 .f32) (v132 : FVec F S1x256 .f32) : k0_pay52 v130 v132 = (selA (geA v130 v132) (negA (F := F)) v130) := rfl
theorem k0_pay53_step (v130 : FVec F S256x256 .f32) (v132 : FVec F S1x256 .f32) : k0_pay53 v130 v132 = (mxA (k0_pay52 v130 v132)) := rfl
theorem k0_pay54_step (v130 : FVec F S256x256 .f32) (v132 : FVec F S1x256 .f32) : k0_pay54 v130 v132 = (selA (geA (k0_pay52 v130 v132) (rowA (k0_pay53 v130 v132))) (negA (F := F)) (k0_pay52 v130 v132)) := rfl
theorem k0_pay55_step (v130 : FVec F S256x256 .f32) (v132 : FVec F S1x256 .f32) : k0_pay55 v130 v132 = (mxA (k0_pay54 v130 v132)) := rfl
theorem k0_pay56_step (v130 : FVec F S256x256 .f32) (v132 : FVec F S1x256 .f32) : k0_pay56 v130 v132 = (selA (geA (k0_pay54 v130 v132) (rowA (k0_pay55 v130 v132))) (negA (F := F)) (k0_pay54 v130 v132)) := rfl
theorem k0_pay57_step (v130 : FVec F S256x256 .f32) (v132 : FVec F S1x256 .f32) : k0_pay57 v130 v132 = (mxA (k0_pay56 v130 v132)) := rfl
theorem k0_pay58_step (v130 : FVec F S256x256 .f32) (v132 : FVec F S1x256 .f32) : k0_pay58 v130 v132 = (selA (geA (k0_pay56 v130 v132) (rowA (k0_pay57 v130 v132))) (negA (F := F)) (k0_pay56 v130 v132)) := rfl
theorem k0_pay59_step (v130 : FVec F S256x256 .f32) (v132 : FVec F S1x256 .f32) : k0_pay59 v130 v132 = (mxA (k0_pay58 v130 v132)) := rfl
theorem k0_pay60_step (v130 : FVec F S256x256 .f32) (v132 : FVec F S1x256 .f32) : k0_pay60 v130 v132 = (selA (geA (k0_pay58 v130 v132) (rowA (k0_pay59 v130 v132))) (negA (F := F)) (k0_pay58 v130 v132)) := rfl
theorem k0_pay61_step (v130 : FVec F S256x256 .f32) (v132 : FVec F S1x256 .f32) : k0_pay61 v130 v132 = (mxA (k0_pay60 v130 v132)) := rfl
theorem k0_pay62_step (v130 : FVec F S256x256 .f32) (v132 : FVec F S1x256 .f32) : k0_pay62 v130 v132 = (selA (geA (k0_pay60 v130 v132) (rowA (k0_pay61 v130 v132))) (negA (F := F)) (k0_pay60 v130 v132)) := rfl
theorem k0_pay63_step (v130 : FVec F S256x256 .f32) (v132 : FVec F S1x256 .f32) : k0_pay63 v130 v132 = (mxA (k0_pay62 v130 v132)) := rfl
theorem k0_pay64_step (v130 : FVec F S256x256 .f32) (v132 : FVec F S1x256 .f32) : k0_pay64 v130 v132 = (selA (geA (k0_pay62 v130 v132) (rowA (k0_pay63 v130 v132))) (negA (F := F)) (k0_pay62 v130 v132)) := rfl
theorem k0_pay65_step (v130 : FVec F S256x256 .f32) (v132 : FVec F S1x256 .f32) : k0_pay65 v130 v132 = (mxA (k0_pay64 v130 v132)) := rfl
theorem k0_pay66_step (v130 : FVec F S256x256 .f32) (v132 : FVec F S1x256 .f32) : k0_pay66 v130 v132 = (geA (k0_pay64 v130 v132) (rowA (k0_pay65 v130 v132))) := rfl
theorem k0_pay67_step  : k0_pay67 (F := F) = (negA (F := F)) := rfl
theorem k0_pay68_step (v172 : FVec F S256x256 .f32) (v176 : IVec S256x256 1) (v177 : FVec F S256x256 .f32) : k0_pay68 v172 v176 v177 = (selA v176 v177 v172) := rfl
theorem k0_pay69_step (v172 : FVec F S256x256 .f32) (v176 : IVec S256x256 1) (v177 : FVec F S256x256 .f32) : k0_pay69 v172 v176 v177 = (mxA (k0_pay68 v172 v176 v177)) := rfl
theorem k0_pay70_step (v172 : FVec F S256x256 .f32) (v176 : IVec S256x256 1) (v177 : FVec F S256x256 .f32) : k0_pay70 v172 v176 v177 = (selA (geA (k0_pay68 v172 v176 v177) (rowA (k0_pay69 v172 v176 v177))) (negA (F := F)) (k0_pay68 v172 v176 v177)) := rfl
theorem k0_pay71_step (v172 : FVec F S256x256 .f32) (v176 : IVec S256x256 1) (v177 : FVec F S256x256 .f32) : k0_pay71 v172 v176 v177 = (mxA (k0_pay70 v172 v176 v177)) := rfl
theorem k0_pay72_step (v172 : FVec F S256x256 .f32) (v176 : IVec S256x256 1) (v177 : FVec F S256x256 .f32) : k0_pay72 v172 v176 v177 = (selA (geA (k0_pay70 v172 v176 v177) (rowA (k0_pay71 v172 v176 v177))) (negA (F := F)) (k0_pay70 v172 v176 v177)) := rfl
theorem k0_pay73_step (v172 : FVec F S256x256 .f32) (v176 : IVec S256x256 1) (v177 : FVec F S256x256 .f32) : k0_pay73 v172 v176 v177 = (mxA (k0_pay72 v172 v176 v177)) := rfl
theorem k0_pay74_step (v172 : FVec F S256x256 .f32) (v176 : IVec S256x256 1) (v177 : FVec F S256x256 .f32) : k0_pay74 v172 v176 v177 = (selA (geA (k0_pay72 v172 v176 v177) (rowA (k0_pay73 v172 v176 v177))) (negA (F := F)) (k0_pay72 v172 v176 v177)) := rfl
theorem k0_pay75_step (v172 : FVec F S256x256 .f32) (v176 : IVec S256x256 1) (v177 : FVec F S256x256 .f32) : k0_pay75 v172 v176 v177 = (mxA (k0_pay74 v172 v176 v177)) := rfl
theorem k0_pay76_step (v172 : FVec F S256x256 .f32) (v176 : IVec S256x256 1) (v177 : FVec F S256x256 .f32) : k0_pay76 v172 v176 v177 = (selA (geA (k0_pay74 v172 v176 v177) (rowA (k0_pay75 v172 v176 v177))) (negA (F := F)) (k0_pay74 v172 v176 v177)) := rfl
theorem k0_pay77_step (v172 : FVec F S256x256 .f32) (v176 : IVec S256x256 1) (v177 : FVec F S256x256 .f32) : k0_pay77 v172 v176 v177 = (mxA (k0_pay76 v172 v176 v177)) := rfl
theorem k0_pay78_step (v172 : FVec F S256x256 .f32) (v176 : IVec S256x256 1) (v177 : FVec F S256x256 .f32) : k0_pay78 v172 v176 v177 = (selA (geA (k0_pay76 v172 v176 v177) (rowA (k0_pay77 v172 v176 v177))) (negA (F := F)) (k0_pay76 v172 v176 v177)) := rfl
theorem k0_pay79_step (v172 : FVec F S256x256 .f32) (v176 : IVec S256x256 1) (v177 : FVec F S256x256 .f32) : k0_pay79 v172 v176 v177 = (mxA (k0_pay78 v172 v176 v177)) := rfl
theorem k0_pay80_step (v172 : FVec F S256x256 .f32) (v176 : IVec S256x256 1) (v177 : FVec F S256x256 .f32) : k0_pay80 v172 v176 v177 = (selA (geA (k0_pay78 v172 v176 v177) (rowA (k0_pay79 v172 v176 v177))) (negA (F := F)) (k0_pay78 v172 v176 v177)) := rfl
theorem k0_pay81_step (v172 : FVec F S256x256 .f32) (v176 : IVec S256x256 1) (v177 : FVec F S256x256 .f32) : k0_pay81 v172 v176 v177 = (mxA (k0_pay80 v172 v176 v177)) := rfl
theorem k0_pay82_step (v172 : FVec F S256x256 .f32) (v176 : IVec S256x256 1) (v177 : FVec F S256x256 .f32) : k0_pay82 v172 v176 v177 = (selA (geA (k0_pay80 v172 v176 v177) (rowA (k0_pay81 v172 v176 v177))) (negA (F := F)) (k0_pay80 v172 v176 v177)) := rfl
theorem k0_pay83_step (v172 : FVec F S256x256 .f32) (v176 : IVec S256x256 1) (v177 : FVec F S256x256 .f32) : k0_pay83 v172 v176 v177 = (mxA (k0_pay82 v172 v176 v177)) := rfl
theorem k0_pay84_step (v172 : FVec F S256x256 .f32) (v176 : IVec S256x256 1) (v177 : FVec F S256x256 .f32) : k0_pay84 v172 v176 v177 = (rowA (k0_pay83 v172 v176 v177)) := rfl
theorem k1_pay1_step (v440 : FVec F S1024 .f32) (v446 : FVec F S1024 .f32) (v452 : FVec F S1024 .f32) (v458 : FVec F S1024 .f32) (v464 : FVec F S1024 .f32) (v470 : FVec F S1024 .f32) (v471 : FVec F S1x1024 .f32) (v472 : FVec F S1x1024 .f32) (v473 : FVec F S1x1024 .f32) (v474 : FVec F S1x1024 .f32) (v475 : FVec F S1x1024 .f32) (v476 : FVec F S1x1024 .f32) (v477 : FVec F S1x1024 .f32) (v478 : FVec F S1x1024 .f32) (v479 : FVec F S1x1024 .f32) (v480 : FVec F S1x1024 .f32) (v481 : FVec F S1x1024 .f32) (v482 : FVec F S1x1024 .f32) (v483 : FVec F S1x1024 .f32) (v484 : FVec F S1x1024 .f32) (v485 : FVec F S1x1024 .f32) (v486 : FVec F S1x1024 .f32) (v487 : FVec F S1x1024 .f32) (v488 : FVec F S1x1024 .f32) (v489 : FVec F S1x1024 .f32) (v490 : FVec F S1x1024 .f32) (v491 : FVec F S1x1024 .f32) (v492 : FVec F S1x1024 .f32) (v493 : FVec F S1x1024 .f32) (v494 : FVec F S1x1024 .f32) (v495 : FVec F S1x1024 .f32) (v496 : FVec F S1x1024 .f32) : k1_pay1 v440 v446 v452 v458 v464 v470 v471 v472 v473 v474 v475 v476 v477 v478 v479 v480 v481 v482 v483 v484 v485 v486 v487 v488 v489 v490 v491 v492 v493 v494 v495 v496 = catL ![v471, v472, v473, v474, v475, v476, v477, v478, v479, v480, v481, v482, v483, v484, v485, v486, v487, v488, v489, v490, v491, v492, v493, v494, v495, v496, (rowL v440), (rowL v446), (rowL v452), (rowL v458), (rowL v464), (rowL v470)] := (catL_mk _ _ _ _ _ _ _ _ _ _ _ _ _ _ _ _ _ _ _ _ _ _ _ _ _ _ _ _ _ _ _ _).symm
theorem k1_pay4_step (v282 : Vec F S8x32x1024 .f32) : k1_pay4 v282 = (mxL (k1_pay3 v282)) := rfl
theorem k1_pay5_step (v282 : Vec F S8x32x1024 .f32) : k1_pay5 v282 = (selL (geL (k1_pay3 v282) (rowL (k1_pay4 v282))) (negL (F := F)) (k1_pay3 v282)) := rfl
theorem k1_pay6_step (v282 : Vec F S8x32x1024 .f32) : k1_pay6 v282 = (mxL (k1_pay5 v282)) := rfl
theorem k1_pay7_step (v282 : Vec F S8x32x1024 .f32) : k1_pay7 v282 = (selL (geL (k1_pay5 v282) (rowL (k1_pay6 v282))) (negL (F := F)) (k1_pay5 v282)) := rfl
theorem k1_pay8_step (v282 : Vec F S8x32x1024 .f32) : k1_pay8 v282 = (mxL (k1_pay7 v282)) := rfl
theorem k1_pay9_step (v282 : Vec F S8x32x1024 .f32) : k1_pay9 v282 = (selL (geL (k1_pay7 v282) (rowL (k1_pay8 v282))) (negL (F := F)) (k1_pay7 v282)) := rfl
theorem k1_pay10_step (v282 : Vec F S8x32x1024 .f32) : k1_pay10 v282 = (mxL (k1_pay9 v282)) := rfl
theorem k1_pay11_step (v282 : Vec F S8x32x1024 .f32) : k1_pay11 v282 = (selL (geL (k1_pay9 v282) (rowL (k1_pay10 v282))) (negL (F := F)) (k1_pay9 v282)) := rfl
theorem k1_pay12_step (v282 : Vec F S8x32x1024 .f32) : k1_pay12 v282 = (mxL (k1_pay11 v282)) := rfl
theorem k1_pay13_step (v282 : Vec F S8x32x1024 .f32) : k1_pay13 v282 = (selL (geL (k1_pay11 v282) (rowL (k1_pay12 v282))) (negL (F := F)) (k1_pay11 v282)) := rfl
theorem k1_pay14_step (v282 : Vec F S8x32x1024 .f32) : k1_pay14 v282 = (mxL (k1_pay13 v282)) := rfl
theorem k1_pay15_step (v282 : Vec F S8x32x1024 .f32) : k1_pay15 v282 = (selL (geL (k1_pay13 v282) (rowL (k1_pay14 v282))) (negL (F := F)) (k1_pay13 v282)) := rfl
theorem k1_pay16_step (v319 : FVec F S256x1024 .f32) : k1_pay16 v319 = (mxL v319) := rfl
theorem k1_pay17_step (v319 : FVec F S256x1024 .f32) : k1_pay17 v319 = (selL (geL v319 (rowL (k1_pay16 v319))) (negL (F := F)) v319) := rfl
theorem k1_pay18_step (v319 : FVec F S256x1024 .f32) : k1_pay18 v319 = (mxL (k1_pay17 v319)) := rfl
theorem k1_pay19_step (v319 : FVec F S256x1024 .f32) : k1_pay19 v319 = (selL (geL (k1_pay17 v319) (rowL (k1_pay18 v319))) (negL (F := F)) (k1_pay17 v319)) := rfl
theorem k1_pay20_step (v319 : FVec F S256x1024 .f32) : k1_pay20 v319 = (mxL (k1_pay19 v319)) := rfl
theorem k1_pay21_step (v319 : FVec F S256x1024 .f32) : k1_pay21 v319 = (selL (geL (k1_pay19 v319) (rowL (k1_pay20 v319))) (negL (F := F)) (k1_pay19 v319)) := rfl
theorem k1_pay22_step (v319 : FVec F S256x1024 .f32) : k1_pay22 v319 = (mxL (k1_pay21 v319)) := rfl
theorem k1_pay23_step (v319 : FVec F S256x1024 .f32) : k1_pay23 v319 = (selL (geL (k1_pay21 v319) (rowL (k1_pay22 v319))) (negL (F := F)) (k1_pay21 v319)) := rfl
theorem k1_pay24_step (v319 : FVec F S256x1024 .f32) : k1_pay24 v319 = (mxL (k1_pay23 v319)) := rfl
theorem k1_pay25_step (v319 : FVec F S256x1024 .f32) : k1_pay25 v319 = (selL (geL (k1_pay23 v319) (rowL (k1_pay24 v319))) (negL (F := F)) (k1_pay23 v319)) := rfl
theorem k1_pay26_step (v319 : FVec F S256x1024 .f32) : k1_pay26 v319 = (mxL (k1_pay25 v319)) := rfl
theorem k1_pay27_step (v319 : FVec F S256x1024 .f32) : k1_pay27 v319 = (selL (geL (k1_pay25 v319) (rowL (k1_pay26 v319))) (negL (F := F)) (k1_pay25 v319)) := rfl
theorem k1_pay28_step (v319 : FVec F S256x1024 .f32) : k1_pay28 v319 = (mxL (k1_pay27 v319)) := rfl
theorem k1_pay29_step (v319 : FVec F S256x1024 .f32) : k1_pay29 v319 = (selL (geL (k1_pay27 v319) (rowL (k1_pay28 v319))) (negL (F := F)) (k1_pay27 v319)) := rfl
theorem k1_pay30_step (v319 : FVec F S256x1024 .f32) : k1_pay30 v319 = (mxL (k1_pay29 v319)) := rfl
theorem k1_pay31_step (v319 : FVec F S256x1024 .f32) : k1_pay31 v319 = (geL (k1_pay29 v319) (rowL (k1_pay30 v319))) := rfl
theorem k1_pay32_step (v361 : FVec F S256x1024 .f32) (v365 : IVec S256x1024 1) : k1_pay32 v361 v365 = (selL v365 (negL (F := F)) v361) := rfl
theorem k1_pay33_step (v361 : FVec F S256x1024 .f32) (v365 : IVec S256x1024 1) : k1_pay33 v361 v365 = (mxL (k1_pay32 v361 v365)) := rfl
theorem k1_pay34_step (v361 : FVec F S256x1024 .f32) (v365 : IVec S256x1024 1) : k1_pay34 v361 v365 = (selL (geL (k1_pay32 v361 v365) (rowL (k1_pay33 v361 v365))) (negL (F := F)) (k1_pay32 v361 v365)) := rfl
theorem k1_pay35_step (v361 : FVec F S256x1024 .f32) (v365 : IVec S256x1024 1) : k1_pay35 v361 v365 = (mxL (k1_pay34 v361 v365)) := rfl
theorem k1_pay36_step (v361 : FVec F S256x1024 .f32) (v365 : IVec S256x1024 1) : k1_pay36 v361 v365 = (selL (geL (k1_pay34 v361 v365) (rowL (k1_pay35 v361 v365))) (negL (F := F)) (k1_pay34 v361 v365)) := rfl
theorem k1_pay37_step (v361 : FVec F S256x1024 .f32) (v365 : IVec S256x1024 1) : k1_pay37 v361 v365 = (mxL (k1_pay36 v361 v365)) := rfl
theorem k1_pay38_step (v361 : FVec F S256x1024 .f32) (v365 : IVec S256x1024 1) : k1_pay38 v361 v365 = (selL (geL (k1_pay36 v361 v365) (rowL (k1_pay37 v361 v365))) (negL (F := F)) (k1_pay36 v361 v365)) := rfl
theorem k1_pay39_step (v361 : FVec F S256x1024 .f32) (v365 : IVec S256x1024 1) : k1_pay39 v361 v365 = (mxL (k1_pay38 v361 v365)) := rfl
theorem k1_pay40_step (v361 : FVec F S256x1024 .f32) (v365 : IVec S256x1024 1) : k1_pay40 v361 v365 = (selL (geL (k1_pay38 v361 v365) (rowL (k1_pay39 v361 v365))) (negL (F := F)) (k1_pay38 v361 v365)) := rfl
theorem k1_pay41_step (v361 : FVec F S256x1024 .f32) (v365 : IVec S256x1024 1) : k1_pay41 v361 v365 = (mxL (k1_pay40 v361 v365)) := rfl
theorem k1_pay42_step (v361 : FVec F S256x1024 .f32) (v365 : IVec S256x1024 1) : k1_pay42 v361 v365 = (selL (geL (k1_pay40 v361 v365) (rowL (k1_pay41 v361 v365))) (negL (F := F)) (k1_pay40 v361 v365)) := rfl
theorem k1_pay43_step (v361 : FVec F S256x1024 .f32) (v365 : IVec S256x1024 1) : k1_pay43 v361 v365 = (mxL (k1_pay42 v361 v365)) := rfl
theorem k1_pay44_step (v361 : FVec F S256x1024 .f32) (v365 : IVec S256x1024 1) : k1_pay44 v361 v365 = (selL (geL (k1_pay42 v361 v365) (rowL (k1_pay43 v361 v365))) (negL (F := F)) (k1_pay42 v361 v365)) := rfl
theorem k1_pay45_step (v361 : FVec F S256x1024 .f32) (v365 : IVec S256x1024 1) : k1_pay45 v361 v365 = (mxL (k1_pay44 v361 v365)) := rfl
theorem k1_pay46_step (v361 : FVec F S256x1024 .f32) (v365 : IVec S256x1024 1) : k1_pay46 v361 v365 = (selL (geL (k1_pay44 v361 v365) (rowL (k1_pay45 v361 v365))) (negL (F := F)) (k1_pay44 v361 v365)) := rfl
theorem k1_pay47_step (v409 : FVec F S256x1024 .f32) : k1_pay47 v409 = (mxL v409) := rfl
theorem k1_pay48_step (v409 : FVec F S256x1024 .f32) : k1_pay48 v409 = (selL (geL v409 (rowL (k1_pay47 v409))) (negL (F := F)) v409) := rfl
theorem k1_pay49_step (v409 : FVec F S256x1024 .f32) : k1_pay49 v409 = (mxL (k1_pay48 v409)) := rfl
theorem k1_pay50_step (v409 : FVec F S256x1024 .f32) : k1_pay50 v409 = (selL (geL (k1_pay48 v409) (rowL (k1_pay49 v409))) (negL (F := F)) (k1_pay48 v409)) := rfl
theorem k1_pay51_step (v409 : FVec F S256x1024 .f32) : k1_pay51 v409 = (mxL (k1_pay50 v409)) := rfl
theorem k1_pay52_step (v409 : FVec F S256x1024 .f32) : k1_pay52 v409 = (selL (geL (k1_pay50 v409) (rowL (k1_pay51 v409))) (negL (F := F)) (k1_pay50 v409)) := rfl
theorem k1_pay53_step (v409 : FVec F S256x1024 .f32) : k1_pay53 v409 = (mxL (k1_pay52 v409)) := rfl
theorem k1_pay54_step (v409 : FVec F S256x1024 .f32) : k1_pay54 v409 = (selL (geL (k1_pay52 v409) (rowL (k1_pay53 v409))) (negL (F := F)) (k1_pay52 v409)) := rfl
theorem k1_pay55_step (v409 : FVec F S256x1024 .f32) : k1_pay55 v409 = (mxL (k1_pay54 v409)) := rfl
theorem k1_pay56_step (v409 : FVec F S256x1024 .f32) : k1_pay56 v409 = (selL (geL (k1_pay54 v409) (rowL (k1_pay55 v409))) (negL (F := F)) (k1_pay54 v409)) := rfl
theorem k1_pay57_step (v409 : FVec F S256x1024 .f32) : k1_pay57 v409 = (mxL (k1_pay56 v409)) := rfl
theorem k1_pay58_step (v409 : FVec F S256x1024 .f32) : k1_pay58 v409 = (selL (geL (k1_pay56 v409) (rowL (k1_pay57 v409))) (negL (F := F)) (k1_pay56 v409)) := rfl
theorem k1_pay59_step (v409 : FVec F S256x1024 .f32) : k1_pay59 v409 = (mxL (k1_pay58 v409)) := rfl
theorem k1_pay60_step (v409 : FVec F S256x1024 .f32) : k1_pay60 v409 = (selL (geL (k1_pay58 v409) (rowL (k1_pay59 v409))) (negL (F := F)) (k1_pay58 v409)) := rfl
theorem k1_pay61_step (v409 : FVec F S256x1024 .f32) : k1_pay61 v409 = (mxL (k1_pay60 v409)) := rfl
theorem k1_pay62_step (v409 : FVec F S256x1024 .f32) : k1_pay62 v409 = (geL (k1_pay60 v409) (rowL (k1_pay61 v409))) := rfl
theorem k1_pay63_step (v451 : FVec F S256x1024 .f32) (v455 : IVec S256x1024 1) : k1_pay63 v451 v455 = (selL v455 (negL (F := F)) v451) := rfl
theorem k1_pay64_step (v451 : FVec F S256x1024 .f32) (v455 : IVec S256x1024 1) : k1_pay64 v451 v455 = (mxL (k1_pay63 v451 v455)) := rfl
theorem k1_pay65_step (v451 : FVec F S256x1024 .f32) (v455 : IVec S256x1024 1) : k1_pay65 v451 v455 = (selL (geL (k1_pay63 v451 v455) (rowL (k1_pay64 v451 v455))) (negL (F := F)) (k1_pay63 v451 v455)) := rfl
theorem k1_pay66_step (v451 : FVec F S256x1024 .f32) (v455 : IVec S256x1024 1) : k1_pay66 v451 v455 = (mxL (k1_pay65 v451 v455)) := rfl
theorem k1_pay67_step (v451 : FVec F S256x1024 .f32) (v455 : IVec S256x1024 1) : k1_pay67 v451 v455 = (mxL (selL (geL (k1_pay65 v451 v455) (rowL (k1_pay66 v451 v455))) (negL (F := F)) (k1_pay65 v451 v455))) := rfl
theorem k1_pay68_step (v284 : FVec F S1024 .f32) : k1_pay68 v284 = (rowL v284) := rfl
theorem k1_pay69_step (v290 : FVec F S1024 .f32) : k1_pay69 v290 = (rowL v290) := rfl
theorem k1_pay70_step (v296 : FVec F S1024 .f32) : k1_pay70 v296 = (rowL v296) := rfl
theorem k1_pay71_step (v302 : FVec F S1024 .f32) : k1_pay71 v302 = (rowL v302) := rfl
theorem k1_pay72_step (v308 : FVec F S1024 .f32) : k1_pay72 v308 = (rowL v308) := rfl
theorem k1_pay73_step (v314 : FVec F S1024 .f32) : k1_pay73 v314 = (rowL v314) := rfl
theorem k1_pay74_step (v320 : FVec F S1024 .f32) : k1_pay74 v320 = (rowL v320) := rfl
theorem k1_pay75_step (v326 : FVec F S1024 .f32) : k1_pay75 v326 = (rowL v326) := rfl
theorem k1_pay76_step (v332 : FVec F S1024 .f32) : k1_pay76 v332 = (rowL v332) := rfl
theorem k1_pay77_step (v338 : FVec F S1024 .f32) : k1_pay77 v338 = (rowL v338) := rfl
theorem k1_pay78_step (v344 : FVec F S1024 .f32) : k1_pay78 v344 = (rowL v344) := rfl
theorem k1_pay79_step (v350 : FVec F S1024 .f32) : k1_pay79 v350 = (rowL v350) := rfl
theorem k1_pay80_step (v356 : FVec F S1024 .f32) : k1_pay80 v356 = (rowL v356) := rfl
theorem k1_pay81_step (v362 : FVec F S1024 .f32) : k1_pay81 v362 = (rowL v362) := rfl
theorem k1_pay82_step (v368 : FVec F S1024 .f32) : k1_pay82 v368 = (rowL v368) := rfl
theorem k1_pay83_step (v374 : FVec F S1024 .f32) : k1_pay83 v374 = (rowL v374) := rfl
theorem k1_pay84_step (v380 : FVec F S1024 .f32) : k1_pay84 v380 = (rowL v380) := rfl
theorem k1_pay85_step (v386 : FVec F S1024 .f32) : k1_pay85 v386 = (rowL v386) := rfl
theorem k1_pay86_step (v392 : FVec F S1024 .f32) : k1_pay86 v392 = (rowL v392) := rfl
theorem k1_pay87_step (v398 : FVec F S1024 .f32) : k1_pay87 v398 = (rowL v398) := rfl
theorem k1_pay88_step (v404 : FVec F S1024 .f32) : k1_pay88 v404 = (rowL v404) := rfl
theorem k1_pay89_step (v410 : FVec F S1024 .f32) : k1_pay89 v410 = (rowL v410) := rfl
theorem k1_pay90_step (v416 : FVec F S1024 .f32) : k1_pay90 v416 = (rowL v416) := rfl
theorem k1_pay91_step (v422 : FVec F S1024 .f32) : k1_pay91 v422 = (rowL v422) := rfl
theorem k1_pay92_step (v428 : FVec F S1024 .f32) : k1_pay92 v428 = (rowL v428) := rfl
theorem k1_pay93_step (v434 : FVec F S1024 .f32) : k1_pay93 v434 = (rowL v434) := rfl

/-! ## What the two bodies store -/

/-- What the first kernel stores, of the block it loads. -/
def k0_out (v0 : Vec F S8192x256 .f32) : FVec F S32x256 .f32 :=
  let v3 := k0_pay5 v0
  let v9 := k0_pay7 v0
  let v15 := k0_pay9 v0
  let v21 := k0_pay11 v0
  let v27 := k0_pay13 v0
  let v33 := k0_pay15 v0
  let v38 := k0_pay16 v0
  let v39 := k0_pay17 v0
  let v42 := k0_pay18 v0
  let cst_13 := Scalar.ofBits .f32 0xFF800000#32
  let v47 := k0_pay20 v3 v9 v15 v21 v27 v33 v38 v39 v42 cst_13
  let v53 := k0_pay22 v3 v9 v15 v21 v27 v33 v38 v39 v42 cst_13
  let v59 := k0_pay24 v3 v9 v15 v21 v27 v33 v38 v39 v42 cst_13
  let v65 := k0_pay26 v3 v9 v15 v21 v27 v33 v38 v39 v42 cst_13
  let v71 := k0_pay28 v3 v9 v15 v21 v27 v33 v38 v39 v42 cst_13
  let v77 := k0_pay30 v3 v9 v15 v21 v27 v33 v38 v39 v42 cst_13
  let v82 := k0_pay31 v3 v9 v15 v21 v27 v33 v38 v39 v42 cst_13
  let v83 := k0_pay32 v3 v9 v15 v21 v27 v33 v38 v39 v42 cst_13
  let v86 := k0_pay33 v3 v9 v15 v21 v27 v33 v38 v39 v42 cst_13
  let v87 := k0_pay34 (F := F)
  let v89 := k0_pay36 v82 v86 v87
  let v95 := k0_pay38 v82 v86 v87
  let v101 := k0_pay40 v82 v86 v87
  let v107 := k0_pay42 v82 v86 v87
  let v113 := k0_pay44 v82 v86 v87
  let v119 := k0_pay46 v82 v86 v87
  let v125 := k0_pay48 v82 v86 v87
  let v130 := k0_pay49 v82 v86 v87
  let v131 := k0_pay50 v82 v86 v87
  let v132 := k0_pay51 v82 v86 v87
  let v137 := k0_pay53 v130 v132
  let v143 := k0_pay55 v130 v132
  let v149 := k0_pay57 v130 v132
  let v155 := k0_pay59 v130 v132
  let v161 := k0_pay61 v130 v132
  let v167 := k0_pay63 v130 v132
  let v172 := k0_pay64 v130 v132
  let v173 := k0_pay65 v130 v132
  let v176 := k0_pay66 v130 v132
  let v177 := k0_pay67 (F := F)
  let v179 := k0_pay69 v172 v176 v177
  let v185 := k0_pay71 v172 v176 v177
  let v191 := k0_pay73 v172 v176 v177
  let v197 := k0_pay75 v172 v176 v177
  let v203 := k0_pay77 v172 v176 v177
  let v209 := k0_pay79 v172 v176 v177
  let v215 := k0_pay81 v172 v176 v177
  let v220 := k0_pay82 v172 v176 v177
  let v221 := k0_pay83 v172 v176 v177
  let v222 := k0_pay84 v172 v176 v177
  let v224 := k0_pay1 v220 v222
  let v226 := k0_pay2 v220 v224
  k0_pay3 v47 v53 v59 v65 v71 v77 v83 v89 v95 v101 v107 v113 v119 v125 v131 v137 v143 v149 v155 v161 v167 v173 v179 v185 v191 v197 v203 v209 v215 v221 v226

/-- What the second kernel stores, of the gathered candidates. -/
def k1_out (v282 : Vec F S8x32x1024 .f32) : FVec F S32x1024 .f32 :=
  let v284 := k1_pay4 v282
  let v290 := k1_pay6 v282
  let v296 := k1_pay8 v282
  let v302 := k1_pay10 v282
  let v308 := k1_pay12 v282
  let v314 := k1_pay14 v282
  let v319 := k1_pay15 v282
  let v320 := k1_pay16 v319
  let v326 := k1_pay18 v319
  let v332 := k1_pay20 v319
  let v338 := k1_pay22 v319
  let v344 := k1_pay24 v319
  let v350 := k1_pay26 v319
  let v356 := k1_pay28 v319
  let v361 := k1_pay29 v319
  let v362 := k1_pay30 v319
  let v365 := k1_pay31 v319
  let v368 := k1_pay33 v361 v365
  let v374 := k1_pay35 v361 v365
  let v380 := k1_pay37 v361 v365
  let v386 := k1_pay39 v361 v365
  let v392 := k1_pay41 v361 v365
  let v398 := k1_pay43 v361 v365
  let v404 := k1_pay45 v361 v365
  let v409 := k1_pay46 v361 v365
  let v410 := k1_pay47 v409
  let v416 := k1_pay49 v409
  let v422 := k1_pay51 v409
  let v428 := k1_pay53 v409
  let v434 := k1_pay55 v409
  let v440 := k1_pay57 v409
  let v446 := k1_pay59 v409
  let v451 := k1_pay60 v409
  let v452 := k1_pay61 v409
  let v455 := k1_pay62 v409
  let v458 := k1_pay64 v451 v455
  let v464 := k1_pay66 v451 v455
  let v470 := k1_pay67 v451 v455
  let v471 := k1_pay68 v284
  let v472 := k1_pay69 v290
  let v473 := k1_pay70 v296
  let v474 := k1_pay71 v302
  let v475 := k1_pay72 v308
  let v476 := k1_pay73 v314
  let v477 := k1_pay74 v320
  let v478 := k1_pay75 v326
  let v479 := k1_pay76 v332
  let v480 := k1_pay77 v338
  let v481 := k1_pay78 v344
  let v482 := k1_pay79 v350
  let v483 := k1_pay80 v356
  let v484 := k1_pay81 v362
  let v485 := k1_pay82 v368
  let v486 := k1_pay83 v374
  let v487 := k1_pay84 v380
  let v488 := k1_pay85 v386
  let v489 := k1_pay86 v392
  let v490 := k1_pay87 v398
  let v491 := k1_pay88 v404
  let v492 := k1_pay89 v410
  let v493 := k1_pay90 v416
  let v494 := k1_pay91 v422
  let v495 := k1_pay92 v428
  let v496 := k1_pay93 v434
  k1_pay1 v440 v446 v452 v458 v464 v470 v471 v472 v473 v474 v475 v476 v477 v478 v479 v480 v481 v482 v483 v484 v485 v486 v487 v488 v489 v490 v491 v492 v493 v494 v495 v496

/-- The rounds over the gathered candidates: the rows of the maxima. -/
theorem k1_out_eq (g : Vec F S8x32x1024 .f32) : k1_out g = outL (k1_pay3 g) := by
  simp only [k1_out, outL, stL, k1_pay1_step, k1_pay4_step, k1_pay5_step, k1_pay6_step, k1_pay7_step, k1_pay8_step, k1_pay9_step, k1_pay10_step, k1_pay11_step, k1_pay12_step, k1_pay13_step, k1_pay14_step, k1_pay15_step, k1_pay16_step, k1_pay17_step, k1_pay18_step, k1_pay19_step, k1_pay20_step, k1_pay21_step, k1_pay22_step, k1_pay23_step, k1_pay24_step, k1_pay25_step, k1_pay26_step, k1_pay27_step, k1_pay28_step, k1_pay29_step, k1_pay30_step, k1_pay31_step, k1_pay32_step, k1_pay33_step, k1_pay34_step, k1_pay35_step, k1_pay36_step, k1_pay37_step, k1_pay38_step, k1_pay39_step, k1_pay40_step, k1_pay41_step, k1_pay42_step, k1_pay43_step, k1_pay44_step, k1_pay45_step, k1_pay46_step, k1_pay47_step, k1_pay48_step, k1_pay49_step, k1_pay50_step, k1_pay51_step, k1_pay52_step, k1_pay53_step, k1_pay54_step, k1_pay55_step, k1_pay56_step, k1_pay57_step, k1_pay58_step, k1_pay59_step, k1_pay60_step, k1_pay61_step, k1_pay62_step, k1_pay63_step, k1_pay64_step, k1_pay65_step, k1_pay66_step, k1_pay67_step, k1_pay68_step, k1_pay69_step, k1_pay70_step, k1_pay71_step, k1_pay72_step, k1_pay73_step, k1_pay74_step, k1_pay75_step, k1_pay76_step, k1_pay77_step, k1_pay78_step, k1_pay79_step, k1_pay80_step, k1_pay81_step, k1_pay82_step, k1_pay83_step, k1_pay84_step, k1_pay85_step, k1_pay86_step, k1_pay87_step, k1_pay88_step, k1_pay89_step, k1_pay90_step, k1_pay91_step, k1_pay92_step, k1_pay93_step, maskL_fold]

/-- The rounds over the pools and then over the maxima kept. -/
theorem k0_out_eq (v : Vec F S8192x256 .f32) : k0_out v = outA (outP (k0_pay4 v)) := by
  simp only [k0_out, outA, outP, stA, stP, k0_pay1_step, k0_pay2_step, k0_pay3_step, k0_pay5_step, k0_pay6_step, k0_pay7_step, k0_pay8_step, k0_pay9_step, k0_pay10_step, k0_pay11_step, k0_pay12_step, k0_pay13_step, k0_pay14_step, k0_pay15_step, k0_pay16_step, k0_pay17_step, k0_pay18_step, k0_pay19_step, k0_pay20_step, k0_pay21_step, k0_pay22_step, k0_pay23_step, k0_pay24_step, k0_pay25_step, k0_pay26_step, k0_pay27_step, k0_pay28_step, k0_pay29_step, k0_pay30_step, k0_pay31_step, k0_pay32_step, k0_pay33_step, k0_pay34_step, k0_pay35_step, k0_pay36_step, k0_pay37_step, k0_pay38_step, k0_pay39_step, k0_pay40_step, k0_pay41_step, k0_pay42_step, k0_pay43_step, k0_pay44_step, k0_pay45_step, k0_pay46_step, k0_pay47_step, k0_pay48_step, k0_pay49_step, k0_pay50_step, k0_pay51_step, k0_pay52_step, k0_pay53_step, k0_pay54_step, k0_pay55_step, k0_pay56_step, k0_pay57_step, k0_pay58_step, k0_pay59_step, k0_pay60_step, k0_pay61_step, k0_pay62_step, k0_pay63_step, k0_pay64_step, k0_pay65_step, k0_pay66_step, k0_pay67_step, k0_pay68_step, k0_pay69_step, k0_pay70_step, k0_pay71_step, k0_pay72_step, k0_pay73_step, k0_pay74_step, k0_pay75_step, k0_pay76_step, k0_pay77_step, k0_pay78_step, k0_pay79_step, k0_pay80_step, k0_pay81_step, k0_pay82_step, k0_pay83_step, k0_pay84_step, maskA_fold, maskP_fold, maskP_fold']

end Cert.Proof
-- ==== Proof.Body1.lean ====
/-
  The ring exchange on one device, run once at a symbolic device: the barrier, the own slot, the seven hops, the eight
  slots joined to the whole gathering buffer, and the result computed from it.
-/
module

public import proofs.«01_k».proof.Proof.Hop
public import proofs.«01_k».proof.Proof.Values

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The eight slots are the gathering buffer -/

theorem mem_slot (p : Fin 8) (i : S8x32x1024.Idx) : i ∈ (slotR p).set ↔ (i 0).val = p.val := by
  rw [Rect.mem_set_unit]
  constructor
  · intro h
    have h0 := h 0
    have e1 : (![p.val, 0, 0] : Fin 3 → ℕ) 0 = p.val := rfl
    have e2 : S1x32x1024.size 0 = 1 := rfl
    rw [e1, e2] at h0; omega
  · intro h a
    match a with
    | ⟨0, _⟩ => exact ⟨h.ge, by show (i 0).val < p.val + 1; omega⟩
    | ⟨1, _⟩ => exact ⟨Nat.zero_le _, by show (i 1).val < 0 + 32; have := (i 1).isLt; have : (i 1).val < 32 := this; omega⟩
    | ⟨2, _⟩ => exact ⟨Nat.zero_le _, by show (i 2).val < 0 + 1024; have := (i 2).isLt; have : (i 2).val < 1024 := this; omega⟩

theorem sl_surj (c : Dev nD) : Function.Surjective fun k : Fin 8 => sl c k.val :=
  Finite.injective_iff_surjective.mp (sl_inj c)

/-- Device `c` holds its gathering buffer whole. -/
def gathPts (c : Dev nD) (f : Gath (F := F)) : sProp 𝕄 := ((c : Thread nD τ).loc cc1_scratch0) ↦{fullShare} f

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- The whole buffer is its eight slots, in the order in which they pass through device `c`. -/
theorem gath_slots (c : Dev nD) (f : Gath (F := F)) :
    gathPts c f = iprop(slotPts c (sl c 0) f ∗ slotPts c (sl c 1) f ∗ slotPts c (sl c 2) f ∗ slotPts c (sl c 3) f
      ∗ slotPts c (sl c 4) f ∗ slotPts c (sl c 5) f ∗ slotPts c (sl c 6) f ∗ slotPts c (sl c 7) f) := by
  unfold gathPts
  refine (Ring.pointsTo_blocks (ℓ := (c : Thread nD τ).loc cc1_scratch0) (fun k : Fin 8 => (slotR (sl c k.val)).set) ?_ ?_ f).trans ?_
  · intro b b' hb
    rw [Finset.disjoint_left]
    intro i hi hi'
    exact hb (sl_inj c (Fin.ext (((mem_slot _ i).mp hi).symm.trans ((mem_slot _ i).mp hi'))))
  · rw [Finset.eq_univ_iff_forall]
    intro i
    obtain ⟨k, hk⟩ := sl_surj c (i 0)
    exact Finset.mem_biUnion.mpr ⟨k, Finset.mem_univ k, (mem_slot _ i).mpr (congrArg Fin.val hk).symm⟩
  · rw [bigSep_fin8]
    simp only [← slot_set]
    rfl

/-! ## The body -/

variable (G : Gath (F := F)) (K : GSem nD τ sig → ℕ)

/-- The barrier's invariants: the own cell's and the neighbours'. -/
def barInvs (c : Dev nD) : sProp 𝕄 :=
  iprop(cellInv ER (sched G) (K (barCell c)) (barCell c) ∗ cellInv ER (sched G) (K (barCell (nxt c))) (barCell (nxt c))
    ∗ cellInv ER (sched G) (K (barCell (prv c))) (barCell (prv c)))

instance barInvs_persistent (c : Dev nD) : BI.Persistent (barInvs G K c) := by unfold barInvs; infer_instance

/-- The barrier's part of what device `c` starts with. -/
def barGhost (c : Dev nD) : sProp 𝕄 :=
  iprop(barInvs G K c ∗ atPos ER (barCell c) 0 ∅ 0 ∗ reached ER (barCell (nxt c)) 0 ∗ reached ER (barCell (prv c)) 0
    ∗ dutyTok ER (barCell (prv c)) 0 false ∗ dutyTok ER (barCell (nxt c)) 0 true ∗ cred (tallyAt (barCell c) () 2))

/-- What device `c` gives its left neighbour: the slots that one will write, and that the receive cells are at round 0. -/
def give (c : Dev nD) : sProp 𝕄 :=
  bigSep Finset.univ fun h : Fin 7 => iprop((∃ f : Gath (F := F), slotPts c (sl c (h.val + 1)) f) ∗ reached ER (recvCell c h) 0)

omit [FloatOps F] in
theorem give_eq (c : Dev nD) : (give c : sProp 𝕄) = barPay (prv c) := by
  unfold give barPay
  rw [nxt_prv]
  simp only [sl_prv]

/-- A whole staging buffer at given contents. -/
abbrev stg (c : Dev nD) (b : Ref sig .tc) (X : b.ty.Contents (Elt F)) : sProp 𝕄 := ((c : Thread nD τ).loc b) ↦{fullShare} X

def ringPre (c : Dev nD) (x y : (cc1_stg0_0 : Ref sig .tc).ty.Contents (Elt F)) (W : Waits sig Unit) : sProp 𝕄 :=
  iprop(barGhost G K c ∗ (bigSep Finset.univ fun h : Fin 7 => iprop(hopGhost G K c h ∗ reached ER (recvCell c h) 0)) ∗ levAts L lv
    ∗ (∃ f, gathPts c f) ∗ stg c cc1_stg0_0 x ∗ stg c cc1_stg1_0 y ∗ owes (c : Thread nD τ) (O₀ c) W)

def ringPost (c : Dev nD) (x : (cc1_stg0_0 : Ref sig .tc).ty.Contents (Elt F)) : sProp 𝕄 :=
  iprop(semVal (barCell c) 0 ∗ (bigSep Finset.univ fun h : Fin 7 => iprop(semVal (sendCell c h) 0 ∗ semVal (recvCell c h) 0))
    ∗ (∃ f, gathPts c f) ∗ stg c cc1_stg0_0 x ∗ stg c cc1_stg1_0 (k1_out G)
    ∗ ∃ W, owes (c : Thread nD τ) (0 : CellTallies nD τ sig Unit) W)

theorem zeros2 : (![0, 0] : Fin 2 → Nat) = fun _ => 0 := funext fun a => by fin_cases a <;> rfl
theorem zeros3 : (![0, 0, 0] : Fin 3 → Nat) = fun _ => 0 := funext fun a => by fin_cases a <;> rfl

/-- Storing the whole result buffer leaves what is stored. -/
theorem res_stored (c : Dev nD) (y w : (cc1_stg1_0 : Ref sig .tc).ty.Contents (Elt F)) :
    (((Memref.whole cc1_stg1_0).access (Rect.unit (s := S32x1024) ![0, 0] S32x1024.size inb_S32x1024_S32x1024_0_0) : View sig .tc _ _ _).loc (c : Thread nD τ)
      ↦{fullShare} (((Memref.whole cc1_stg1_0).access (Rect.unit (s := S32x1024) ![0, 0] S32x1024.size inb_S32x1024_S32x1024_0_0) : View sig .tc _ _ _).write (Elt F) y w Finset.univ)
      : sProp 𝕄) = stg c cc1_stg1_0 w :=
  congrArg (fun f => stg c cc1_stg1_0 f) (Memref.write_access_unit_zero_univ (Elt F) cc1_stg1_0 zeros2 inb_S32x1024_S32x1024_0_0 y w)

set_option maxHeartbeats 8000000 in
set_option maxRecDepth 65536 in
theorem ringRun (c : Dev nD) (x y : (cc1_stg0_0 : Ref sig .tc).ty.Contents (Elt F)) (W : Waits sig Unit) (Kt : PUnit → sProp 𝕄)
    (hx : ∀ j, k1_pay2 x j = G ((slotR (sl c 0)).emb j)) :
    iprop(ringPre G K c x y W ∗ (ringPost G c x -∗ Kt ⟨⟩))
      ⊢ wp frame (wpE (defs₀ (F := F)) 𝒱₀ c none) Set.univ
          (cc1_body (Memref.whole cc1_stg0_0) (Memref.isWhole_whole _) (Memref.whole cc1_stg1_0) (Memref.isWhole_whole _)
            (Memref.whole cc1_scratch0) (Memref.isWhole_whole _) cc1_scratch1 cc1_scratch2) Kt := by
  simp only [cc1_body_eq_skeleton]; unfold cc1_body_skel
  simp only [k1_part14_eq_skeleton]; unfold k1_part14_skel
  simp only [k1_part1_eq_skeleton, k1_part2_eq_skeleton, k1_part3_eq_skeleton, k1_part4_eq_skeleton, k1_part5_eq_skeleton,
    k1_part6_eq_skeleton, k1_part7_eq_skeleton, k1_part8_eq_skeleton, k1_part9_eq_skeleton, k1_part10_eq_skeleton,
    k1_part11_eq_skeleton, k1_part12_eq_skeleton, k1_part13_eq_skeleton]
  unfold k1_part1_skel k1_part2_skel k1_part3_skel k1_part4_skel k1_part5_skel k1_part6_skel k1_part7_skel k1_part8_skel k1_part9_skel
    k1_part10_skel k1_part11_skel k1_part12_skel k1_part13_skel
  simp only [semSignalWord, semWaitWord, Prog.lift, Prog.bind_op, Prog.bind_ret, Prog.pure_eq_ret, wp_deviceId]
  unfold ringPre barGhost barInvs
  rw [bigSep_fin7]
  iintro ⟨⟨⟨⟨#HIb, #HIn, #HIp⟩, HatB, #HrN, #HrP, HtP, HtN, HcB⟩, ⟨⟨Hg0, #Hr0⟩, ⟨Hg1, #Hr1⟩, ⟨Hg2, #Hr2⟩, ⟨Hg3, #Hr3⟩, ⟨Hg4, #Hr4⟩, ⟨Hg5, #Hr5⟩, ⟨Hg6, #Hr6⟩⟩, #Hlev, ⟨%f0, Hgath⟩, Hx, Hy, HO⟩, Hk⟩
  ihave Hsl := (Entails.of_eq (gath_slots c f0)) $$ Hgath
  icases Hsl with ⟨Hs0, Hs1, Hs2, Hs3, Hs4, Hs5, Hs6, Hs7⟩
  simp only [dev1_eq c, dev2_eq c]
  -- the left neighbour's barrier: the seven slots it will write
  iapply (Rounds.wp_signal 𝒱₀ ER (sched G) (c : Thread nD τ) none (dst := (prv c : Thread nD τ)) (sem := barS) (r := 0) (d := false) (κ := K (barCell (prv c)))
      (by rw [duties_bar]; decide) ((amount_bar G (prv c) false).trans (by decide)) () (OR c 0 + tallyAt (barCell (nxt c)) () 1) rfl)
    $$ [HO HtP Hs1 Hs2 Hs3 Hs4 Hs5 Hs6 Hs7]
  · isplitr; · iexact HIp
    isplitl [HO]; · iexact HO
    isplitl [HtP]; · iexact HtP
    isplitl [Hs1 Hs2 Hs3 Hs4 Hs5 Hs6 Hs7]
    · rw [payload_left, ← give_eq]; unfold give; rw [bigSep_fin7]
      isplitl [Hs1]; · isplitl [Hs1]; · iexists f0; iexact Hs1
                       iexact Hr0
      isplitl [Hs2]; · isplitl [Hs2]; · iexists f0; iexact Hs2
                       iexact Hr1
      isplitl [Hs3]; · isplitl [Hs3]; · iexists f0; iexact Hs3
                       iexact Hr2
      isplitl [Hs4]; · isplitl [Hs4]; · iexists f0; iexact Hs4
                       iexact Hr3
      isplitl [Hs5]; · isplitl [Hs5]; · iexists f0; iexact Hs5
                       iexact Hr4
      isplitl [Hs6]; · isplitl [Hs6]; · iexists f0; iexact Hs6
                       iexact Hr5
      isplitl [Hs7]; · iexists f0; iexact Hs7
      iexact Hr6
    · iexact HrP
  iintro HO
  -- the right neighbour's barrier
  iapply (Rounds.wp_signal 𝒱₀ ER (sched G) (c : Thread nD τ) none (dst := (nxt c : Thread nD τ)) (sem := barS) (r := 0) (d := true) (κ := K (barCell (nxt c)))
      (by rw [duties_bar]; decide) ((amount_bar G (nxt c) true).trans (by decide)) () (OR c 0) rfl)
    $$ [HO HtN]
  · isplitr; · iexact HIn
    isplitl [HO]; · iexact HO
    isplitl [HtN]; · iexact HtN
    isplitr; · rw [payload_right]; iempintro
    iexact HrN
  iintro HO
  -- both neighbours' signals: the right one's come with its slots
  iapply (Rounds.wp_wait_rest_token 𝒱₀ ER (sched G) (c : Thread nD τ) none (κ := K (barCell c)) (sm := .reg barS) (k' := 2)
      (wpE_semWait_eq (sem := barS) 𝒱₀ (c : Thread nD τ) none Set.univ) (Set.mem_univ _) () (O := OR c 0) (W := W) (R := 0) (m := 0) (T := ∅)
      ((Nat.zero_add _).trans (expect_bar G c).symm)) $$ [HcB HO HatB]
  · isplitr; · iexact HIb
    isplitl [HcB]; · iexact HcB
    isplitl [HO]; · iexact HO
    isplitr; · iapply (mayWait_low c 0 (.reg barS) (by rw [lv_bar]; decide)); iexact Hlev
    iexact HatB
  iintro ⟨HO, HatB, -, Hpay⟩
  ihave Hp := (Entails.of_eq (rest_bar G c)) $$ Hpay
  unfold barPay
  rw [bigSep_fin7]
  icases Hp with ⟨⟨Hl0, Hl1, Hl2, Hl3, Hl4, Hl5, Hl6⟩, -⟩
  imod (close G (K (barCell c)) (barCell c)) $$ [HatB] with HzB
  · isplitr; · iexact HIb
    iexact HatB
  -- the own slot
  iapply (wp_load 𝒱₀ (c : Thread nD τ) none Set.univ (m := Memref.whole cc1_stg0_0) (Finset.subset_univ _)) $$ Hx; iintro Hx
  rw [show (Memref.whole cc1_stg0_0 : Memref sig .tc .vmem S32x1024 .f32).view.readAt (Elt F) (Rect.unit (s := S32x1024) ![0, 0] S32x1024.size inb_S32x1024_S32x1024_0_0).toLoadRect x = x
    from Memref.readAt_unit_zero (Elt F) cc1_stg0_0 zeros2 _ x]
  ihave Hs0 := (Entails.of_eq (show slotPts c (sl c 0) f0 = ((slotM (sl c 0)).view.loc (c : Thread nD τ) ↦[(slotM (sl c 0)).view.set]{fullShare} f0) from rfl)) $$ Hs0
  iapply (wp_load 𝒱₀ (c : Thread nD τ) none Set.univ (m := Memref.whole cc1_scratch0) (own_load_sub (sl c 0) _ (off1_eq c) _)) $$ Hs0; iintro Hs0
  iapply (wp_store 𝒱₀ (c : Thread nD τ) none Set.univ (m := Memref.whole cc1_scratch0) (r := Rect.unit (s := S8x32x1024) (k1_off1 c) S1x32x1024.size (k1_off1_inb c)) (Mk := Finset.univ) (own_store_sub (sl c 0) _ (off1_eq c) _)) $$ Hs0; iintro Hs0
  ihave Hs0 := (Entails.of_eq (own_stored G c (sl c 0) _ (off1_eq c) _ f0 (k1_pay2 x) hx)) $$ Hs0
  -- the seven hops
  iapply (wp_hop G K c _ (dev3_eq c) 0 _ (off2_eq c 0) _ _ _ rfl rfl rfl _) $$ [Hg0 Hl0 Hs0 HO]
  · isplitl [Hg0]; · iexact Hg0
    isplitl [Hl0]; · unfold hopLand; iexact Hl0
    isplitl [Hs0]; · iexact Hs0
    isplitr; · iexact Hlev
    iexact HO
  iintro ⟨HzS0, HzR0, Hs0, Hs1, ⟨%W0, HO⟩⟩
  iapply (wp_hop G K c _ (dev4_eq c) 1 _ (off2_eq c 1) _ _ _ rfl rfl rfl _) $$ [Hg1 Hl1 Hs1 HO]
  · isplitl [Hg1]; · iexact Hg1
    isplitl [Hl1]; · unfold hopLand; iexact Hl1
    isplitl [Hs1]; · iexact Hs1
    isplitr; · iexact Hlev
    iexact HO
  iintro ⟨HzS1, HzR1, Hs1, Hs2, ⟨%W1, HO⟩⟩
  iapply (wp_hop G K c _ (dev5_eq c) 2 _ (off2_eq c 2) _ _ _ rfl rfl rfl _) $$ [Hg2 Hl2 Hs2 HO]
  · isplitl [Hg2]; · iexact Hg2
    isplitl [Hl2]; · unfold hopLand; iexact Hl2
    isplitl [Hs2]; · iexact Hs2
    isplitr; · iexact Hlev
    iexact HO
  iintro ⟨HzS2, HzR2, Hs2, Hs3, ⟨%W2, HO⟩⟩
  iapply (wp_hop G K c _ (dev6_eq c) 3 _ (off2_eq c 3) _ _ _ rfl rfl rfl _) $$ [Hg3 Hl3 Hs3 HO]
  · isplitl [Hg3]; · iexact Hg3
    isplitl [Hl3]; · unfold hopLand; iexact Hl3
    isplitl [Hs3]; · iexact Hs3
    isplitr; · iexact Hlev
    iexact HO
  iintro ⟨HzS3, HzR3, Hs3, Hs4, ⟨%W3, HO⟩⟩
  iapply (wp_hop G K c _ (dev7_eq c) 4 _ (off2_eq c 4) _ _ _ rfl rfl rfl _) $$ [Hg4 Hl4 Hs4 HO]
  · isplitl [Hg4]; · iexact Hg4
    isplitl [Hl4]; · unfold hopLand; iexact Hl4
    isplitl [Hs4]; · iexact Hs4
    isplitr; · iexact Hlev
    iexact HO
  iintro ⟨HzS4, HzR4, Hs4, Hs5, ⟨%W4, HO⟩⟩
  iapply (wp_hop G K c _ (dev8_eq c) 5 _ (off2_eq c 5) _ _ _ rfl rfl rfl _) $$ [Hg5 Hl5 Hs5 HO]
  · isplitl [Hg5]; · iexact Hg5
    isplitl [Hl5]; · unfold hopLand; iexact Hl5
    isplitl [Hs5]; · iexact Hs5
    isplitr; · iexact Hlev
    iexact HO
  iintro ⟨HzS5, HzR5, Hs5, Hs6, ⟨%W5, HO⟩⟩
  iapply (wp_hop G K c _ (dev9_eq c) 6 _ (off2_eq c 6) _ _ _ rfl rfl rfl _) $$ [Hg6 Hl6 Hs6 HO]
  · isplitl [Hg6]; · iexact Hg6
    isplitl [Hl6]; · unfold hopLand; iexact Hl6
    isplitl [Hs6]; · iexact Hs6
    isplitr; · iexact Hlev
    iexact HO
  iintro ⟨HzS6, HzR6, Hs6, Hs7, ⟨%W6, HO⟩⟩
  -- the eight slots make the whole buffer
  ihave Hgath := (Entails.of_eq (gath_slots c G).symm) $$ [Hs0 Hs1 Hs2 Hs3 Hs4 Hs5 Hs6 Hs7]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  ihave Hgath := (Entails.of_eq (show gathPts c G = (((c : Thread nD τ).loc cc1_scratch0) ↦{fullShare} G) from rfl)) $$ Hgath
  iapply (wp_load 𝒱₀ (c : Thread nD τ) none Set.univ (m := Memref.whole cc1_scratch0) (Finset.subset_univ _)) $$ Hgath; iintro Hgath
  rw [show (Memref.whole cc1_scratch0 : Memref sig .tc .vmem S8x32x1024 .f32).view.readAt (Elt F) (Rect.unit (s := S8x32x1024) ![0, 0, 0] S8x32x1024.size inb_S8x32x1024_S8x32x1024_0_0_0).toLoadRect G = G
    from Memref.readAt_unit_zero (Elt F) cc1_scratch0 zeros3 _ G]
  iapply (wp_load 𝒱₀ (c : Thread nD τ) none Set.univ (m := Memref.whole cc1_stg1_0) (Finset.subset_univ _)) $$ Hy; iintro Hy
  iapply (wp_store 𝒱₀ (c : Thread nD τ) none Set.univ (m := Memref.whole cc1_stg1_0) (r := Rect.unit (s := S32x1024) ![0, 0] S32x1024.size inb_S32x1024_S32x1024_0_0) (Mk := Finset.univ) (Finset.subset_univ _)) $$ Hy; iintro Hy
  ihave Hy := (Entails.of_eq (res_stored c y _)) $$ Hy
  rw [wp_ret]
  imodintro
  iapply Hk
  unfold ringPost
  simp only [k1_out]
  rw [bigSep_fin7]
  isplitl [HzB]; · iexact HzB
  isplitl [HzS0 HzR0 HzS1 HzR1 HzS2 HzR2 HzS3 HzR3 HzS4 HzR4 HzS5 HzR5 HzS6 HzR6]
  · isplitl [HzS0 HzR0]; · isplitl [HzS0] <;> iassumption
    isplitl [HzS1 HzR1]; · isplitl [HzS1] <;> iassumption
    isplitl [HzS2 HzR2]; · isplitl [HzS2] <;> iassumption
    isplitl [HzS3 HzR3]; · isplitl [HzS3] <;> iassumption
    isplitl [HzS4 HzR4]; · isplitl [HzS4] <;> iassumption
    isplitl [HzS5 HzR5]; · isplitl [HzS5] <;> iassumption
    isplitl [HzS6] <;> iassumption
  isplitl [Hgath]; · iexists G; unfold gathPts; iexact Hgath
  isplitl [Hx]; · iexact Hx
  isplitl [Hy]; · iexact Hy
  iexists _; rw [← OR_last c]; iexact HO

end Cert.Proof
-- ==== Proof.Body0.lean ====
/-
  The first kernel's body at one grid point: it loads its block of the transposed array, selects, and stores the
  candidates.
-/
module

public import proofs.«01_k».proof.Proof.Body1
public import Idealize.ShloMosaic.Lib.VecWindow

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
/-- Storing through the rectangle that is all of a memref leaves, read back, what is stored. -/
theorem stored_all {s : Shape} {e : EltTy} (M : Memref sig .tc .vmem s e) {off : Fin s.rank → ℕ} (inb : ∀ a, off a + s.size a ≤ s.size a)
    (g : M.view.ty.Contents (Elt F)) (w : s.Idx → Elt F e) :
    M.view.read (Elt F) ((M.access (Rect.unit off s.size inb)).write (Elt F) g w Finset.univ) = w := by
  rw [← View.readAt_full M.view _ inb, View.readAt_rect]
  exact View.read_write_univ _ _

set_option maxHeartbeats 8000000 in
set_option maxRecDepth 65536 in
/-- The body stores what it selects from the block it loads. -/
theorem poolRun (c : Dev nD) (i : grid0.Coords) (M : Memref sig .tc .vmem S8192x256 .f32) (hM : M.IsWhole) (N : Memref sig .tc .vmem S32x256 .f32) (hN : N.IsWhole)
    (x : S8192x256.Idx → Elt F .f32) (y : S32x256.Idx → Elt F .f32) (Kt : PUnit → sProp 𝕄) :
    iprop(owns c M fullShare x ∗ owns c N fullShare y ∗ (owns c M fullShare x ∗ owns c N fullShare (k0_out x) -∗ Kt ⟨⟩))
      ⊢ wp frame (wpE (defs₀ (F := F)) 𝒱₀ c none) Set.univ (cc0_body i M hM N hN) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret]
  unfold owns
  iintro ⟨⟨%f, %hf, Hx⟩, ⟨%g, %hg, Hy⟩, Hk⟩
  iapply (wp_load 𝒱₀ (c : Thread nD τ) none Set.univ (m := M) (View.setOn_subset_set _ _)) $$ Hx; iintro Hx
  rw [View.readAt_full, hf]
  iapply (wp_load 𝒱₀ (c : Thread nD τ) none Set.univ (m := N) (View.setOn_subset_set _ _)) $$ Hy; iintro Hy
  iapply (wp_store 𝒱₀ (c : Thread nD τ) none Set.univ (m := N) (r := Rect.unit (s := S32x256) ![0, 0] S32x256.size inb_S32x256_S32x256_0_0) (Mk := Finset.univ)
    (((N.access _).setOn_subset_set _).trans (View.set_slice_subset _ _))) $$ Hy; iintro Hy
  rw [wp_ret]
  imodintro
  iapply Hk
  isplitl [Hx]
  · iexists f; isplitr; · ipureintro; exact hf
    iexact Hx
  · iexists _; isplitr; swap; (· iexact Hy)
    ipureintro
    exact stored_all N _ g _

end Cert.Proof
-- ==== Proof.Data.lean ====
/-
  What every buffer holds along the run, and the two kernels' bodies against it.
-/
module

public import proofs.«01_k».proof.Proof.Body0

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- The block of the transposed array that the first kernel loads at point `t`. -/
def blk0 (c : Dev nD) (t : Fin cfg0.N) : (cfg0.win 0).block.Idx → Elt F (cfg0.win 0).elt :=
  ((cfg0.win 0).blk t).view.read (Elt F) (V1 m c main_v1)

/-- The proof data of the first kernel: it owes throughout what the device owes at launch, and its scratch is untouched. -/
def dat0 (c : Dev nD) : Dat τ (Elt F) Unit ℕ UU ℕ cfg0 c where
  A w := V1 m c (Proc.devRef .tc (Pipeline.arrRef spec0 w))
  after w t := match w with
    | ⟨0, _⟩ => blk0 m c t
    | ⟨1, _⟩ => k0_out (blk0 m c t)
  Φ _ := Pipeline.scopedRest (Ix := Unit) (Name := ℕ) (U := UU) (Lvl := ℕ) (Val := Elt F) spec0 c
  q _ := fullShare
  owed _ := O₀ c

/-- The candidates of device `c`: what the first kernel leaves. -/
def cand (c : Dev nD) : Buf (Elt F) ((c : Thread nD τ).loc main_v2) := (dat0 m c).arrAt 1 cfg0.N

/-- The unscoped buffers after the first kernel. -/
abbrev W2 (c : Dev nD) : Valuation τ sig (Elt F) := Function.update (V1 m c) (Proc.devRef .tc main_v2) (cand m c)

/-- The block the second kernel loads. -/
def blk1 (c : Dev nD) : (cfg1.win 0).block.Idx → Elt F (cfg1.win 0).elt :=
  ((cfg1.win 0).blk t1_0).view.read (Elt F) (cand m c)

/-- The gathered candidates: slot `p` is what device `p` stores in its own. -/
def gathered : Gath (F := F) := fun i =>
  k1_pay2 (F := F) (blk1 m (i 0)) (fun a => match a with
    | ⟨0, _⟩ => (⟨0, Nat.one_pos⟩ : Fin 1)
    | ⟨1, _⟩ => (i 1 : Fin 32)
    | ⟨2, _⟩ => (i 2 : Fin 1024))

theorem gathered_own (c : Dev nD) (j : S1x32x1024.Idx) : k1_pay2 (F := F) (blk1 m c) j = gathered m ((slotR (sl c 0)).emb j) := by
  unfold gathered
  have h0 : (((slotR (sl c 0)).emb j) 0 : Dev nD) = c := by
    apply Fin.ext
    show (sl c 0).val + 1 * (j 0).val = c.val
    have : (j 0).val < 1 := (j 0).isLt
    rw [sl_zero]; show c.val + 1 * (j 0).val = c.val; omega
  rw [h0]
  congr 1
  funext a
  match a with
  | ⟨0, _⟩ => exact Fin.ext (by have : (j 0).val < 1 := (j 0).isLt; show (j 0).val = 0; omega)
  | ⟨1, _⟩ => exact Fin.ext (by show (j 1).val = 0 + 1 * (j 1).val; omega)
  | ⟨2, _⟩ => exact Fin.ext (by show (j 2).val = 0 + 1 * (j 2).val; omega)

/-! ## The first kernel -/

theorem before0 (c : Dev nD) (t : Fin cfg0.N) (d : (cfg0.win 0).block.Idx → Elt F (cfg0.win 0).elt) : (dat0 m c).before 0 t d = blk0 m c t := by
  unfold Dat.before; rw [if_pos (fetch0_0 t)]; rfl

theorem body0 (c : Dev nD) : BodyObligation (dat0 m c) (defs₀ (F := F)) 𝒱₀ () Set.univ := fun t => by
  rw [bigSep_W0, bigSep_W0]
  rw [show (dat0 m c).Φ t.castSucc = (dat0 m c).Φ t.succ from rfl,
    show (dat0 m c).owesAt () t.succ = (dat0 m c).owesAt () t.castSucc from rfl]
  iintro ⟨HΦ, Howes, ⟨%d0, H0⟩, ⟨%d1, H1⟩⟩
  ihave H0 := (Entails.of_eq (congrArg (fun X => owns (c : Thread nD τ) ((cfg0.win 0).stage (cfg0.slots t 0)) fullShare X) (before0 m c t d0))) $$ H0
  iapply (poolRun c (grid0.coords t) (win0_0.stage (cfg0.slots t 0)) (hstage0_0 ((cfg0.slots t 0).cast nbuf0_0)) (win0_1.stage (cfg0.slots t 1)) (hstage0_1 ((cfg0.slots t 1).cast nbuf0_1)) (blk0 m c t) _ _)
  isplitl [H0]; · iexact H0
  isplitl [H1]; · iexact H1
  iintro ⟨H0, H1⟩
  isplitl [HΦ]; · iexact HΦ
  isplitl [Howes]; · iexact Howes
  isplitl [H0]; · iexact H0
  iexact H1

/-! ## The second kernel -/

/-- The semaphores of the second kernel beside those of its windows: seven to send with and seven to receive with. -/
abbrev osem1 : Fin 2 × Fin 7 → SemLoc sig
  | (0, h) => .dma (sendS h)
  | (1, h) => .dma (recvS h)

/-- What device `c` has for hop `h` before its two counters are handed out. -/
def hopStart (K : GSem nD τ sig → ℕ) (c : Dev nD) (h : Fin 7) : sProp 𝕄 :=
  iprop(hopInvs (gathered m) K c h ∗ openTok ER (sendCell c h) ∗ openTok ER (recvCell c h)
    ∗ dutyTok ER (sendCell c h) 0 false ∗ dutyTok ER (recvCell (nxt c) h) 0 false ∗ cred (tallyAt (recvCell c h) () N))

/-- What device `c` brings to the second kernel. -/
def ready (c : Dev nD) : sProp 𝕄 :=
  iprop(∃ K, barGhost (gathered m) K c ∗ bigSep Finset.univ fun h : Fin 7 => hopStart m K c h)

/-- The same with the cells of the copies opened. -/
def entered (c : Dev nD) : sProp 𝕄 :=
  iprop((∃ K, barGhost (gathered m) K c ∗ bigSep Finset.univ fun h : Fin 7 => iprop(hopGhost (gathered m) K c h ∗ reached ER (recvCell c h) 0))
    ∗ levAts L lv)

/-- The counters of the copies' semaphores, all at zero. -/
def counters (c : Dev nD) : sProp 𝕄 :=
  bigSep Finset.univ fun h : Fin 7 => iprop(semVal (sendCell c h) 0 ∗ semVal (recvCell c h) 0)

omit [FloatOps F] in
theorem ownSems1_eq (c : Dev nD) : (Pipeline.ownSems0 osem1 c : sProp 𝕄) = counters c := by
  unfold Pipeline.ownSems0 counters
  rw [bigSep_univ_prod, BI.bigSep_fin_two, BI.bigSep_sep']
  rfl

theorem hop_open (K : GSem nD τ sig → ℕ) (c : Dev nD) (h : Fin 7) :
    iprop(hopStart m K c h ∗ (semVal (sendCell c h) 0 ∗ semVal (recvCell c h) 0))
      ⊢ (|={Set.univ}=> (hopGhost (gathered m) K c h ∗ reached ER (recvCell c h) 0) : sProp 𝕄) := by
  unfold hopStart hopGhost hopInvs
  iintro ⟨⟨⟨#HIs, #HIr, #HIn⟩, HoS, HoR, HtS, HtR, Hc⟩, Hs0, Hr0⟩
  imod (Rounds.cell_open ER (sched (gathered m)) (g := sendCell c h) (Set.mem_univ (K (sendCell c h)))) $$ [HoS Hs0] with ⟨HatS, #HrS⟩
  · isplitr; · iexact HIs
    isplitl [HoS] <;> iassumption
  imod (Rounds.cell_open ER (sched (gathered m)) (g := recvCell c h) (Set.mem_univ (K (recvCell c h)))) $$ [HoR Hr0] with ⟨HatR, #HrR⟩
  · isplitr; · iexact HIr
    isplitl [HoR] <;> iassumption
  imodintro
  isplitl; swap; · iexact HrR
  isplitr
  · isplitr; · iexact HIs
    isplitr; · iexact HIr
    iexact HIn
  isplitl [HatS]; · iexact HatS
  isplitr; · iexact HrS
  isplitl [HatR]; · iexact HatR
  isplitl [HtS]; · iexact HtS
  isplitl [HtR] <;> iassumption

theorem ready_open (c : Dev nD) : iprop(ready m c ∗ Pipeline.ownSems0 osem1 c ∗ levAts L lv) ⊢ (|={Set.univ}=> entered m c : sProp 𝕄) := by
  rw [ownSems1_eq]
  unfold ready entered counters
  iintro ⟨⟨%K, Hb, Hh⟩, Hc, #Hlev⟩
  ihave HH := (Entails.of_eq (bigSep_sep' (s := Finset.univ) (fun h : Fin 7 => hopStart m K c h) (fun h : Fin 7 => iprop(semVal (sendCell c h) 0 ∗ semVal (recvCell c h) 0))).symm) $$ [Hh Hc]
  · isplitl [Hh] <;> iassumption
  have hop : (bigSep Finset.univ fun h : Fin 7 => iprop(hopStart m K c h ∗ (semVal (sendCell c h) 0 ∗ semVal (recvCell c h) 0)))
      ⊢ (|={Set.univ}=> bigSep Finset.univ fun h : Fin 7 => iprop(hopGhost (gathered m) K c h ∗ reached ER (recvCell c h) 0) : sProp 𝕄) :=
    (bigSep_mono fun h _ => hop_open m K c h).trans (bigSep_fupd _ _)
  imod hop $$ HH with HH
  imodintro
  isplitl; swap; · iexact Hlev
  iexists K
  isplitl [Hb] <;> iassumption

/-- The proof data of the second kernel: it enters owing the barrier's signals and the copies, and leaves owing nothing. -/
def dat1 (c : Dev nD) : Dat τ (Elt F) Unit ℕ UU ℕ cfg1 c where
  A w := W2 m c (Proc.devRef .tc (Pipeline.arrRef spec1 w))
  after w _ := match w with
    | ⟨0, _⟩ => blk1 m c
    | ⟨1, _⟩ => k1_out (gathered m)
  Φ t := if t.val = 0 then iprop(entered m c ∗ Pipeline.scopedRest (Ix := Unit) (Name := ℕ) (U := UU) (Lvl := ℕ) (Val := Elt F) spec1 c ∗ ∃ r, prngReg c r)
    else iprop(semVal (barCell c) 0 ∗ counters c ∗ Pipeline.scopedRest (Ix := Unit) (Name := ℕ) (U := UU) (Lvl := ℕ) (Val := Elt F) spec1 c ∗ ∃ r, prngReg c r)
  q _ := fullShare
  owed t := if t.val = 0 then O₀ c else 0

theorem owed1_first (c : Dev nD) : (dat1 m c).owed t1_0.castSucc = O₀ c := by
  show (if (t1_0.castSucc : Fin (cfg1.N + 1)).val = 0 then O₀ c else 0) = O₀ c; exact if_pos rfl
theorem owed1_last (c : Dev nD) : (dat1 m c).owed (Fin.last _) = 0 := by
  show (if (Fin.last cfg1.N).val = 0 then O₀ c else 0) = 0
  rw [Fin.val_last, if_neg (by rw [show cfg1.N = 1 from N_1]; decide)]

omit [FloatOps F] in
theorem owesAt_put {cfg : Cfg sig Λ₀} {c : Dev nD} (dat : Dat τ (Elt F) Unit ℕ UU ℕ cfg c) (t : Fin (cfg.N + 1))
    {O : CellTallies nD τ sig Unit} (h0 : dat.owed t = O) (hr : dat.recorded t = Set.univ) (W : Waits sig Unit) :
    (owes (c : Thread nD τ) O W : sProp 𝕄) ⊢ (dat.owesAt () t : sProp 𝕄) := by
  unfold Dat.owesAt Pipeline.owesWithin Dat.bound
  subst h0
  rw [hr]
  iintro HO
  iexists W
  isplitr
  · ipureintro; exact fun _ _ => .inl trivial
  · iexact HO
omit [FloatOps F] in
theorem owesAt_get {cfg : Cfg sig Λ₀} {c : Dev nD} (dat : Dat τ (Elt F) Unit ℕ UU ℕ cfg c) (t : Fin (cfg.N + 1))
    {O : CellTallies nD τ sig Unit} (h0 : dat.owed t = O) :
    (dat.owesAt () t : sProp 𝕄) ⊢ iprop(∃ W, owes (c : Thread nD τ) O W) := by
  subst h0
  unfold Dat.owesAt Pipeline.owesWithin
  iintro ⟨%W, %_, HO⟩
  iexists W; iexact HO

theorem W2_v2 (c : Dev nD) : W2 m c (Proc.devRef .tc main_v2) = cand m c := Function.update_self ..

theorem before1 (c : Dev nD) (t : Fin cfg1.N) (d : (cfg1.win 0).block.Idx → Elt F (cfg1.win 0).elt) : (dat1 m c).before 0 t d = blk1 m c := by
  obtain rfl := fin_N1 t
  unfold Dat.before; rw [if_pos (fetch1_0 t1_0)]
  unfold blk1
  show ((cfg1.win 0).blk t1_0).view.read (Elt F) (W2 m c (Proc.devRef .tc main_v2)) = _
  rw [W2_v2]

theorem body1 (c : Dev nD) : BodyObligation (dat1 m c) (defs₀ (F := F)) 𝒱₀ () Set.univ := fun t => by
  obtain rfl := fin_N1 t
  rw [bigSep_W1, bigSep_W1]
  rw [show (dat1 m c).Φ t1_0.castSucc = iprop(entered m c ∗ Pipeline.scopedRest (Ix := Unit) (Name := ℕ) (U := UU) (Lvl := ℕ) (Val := Elt F) spec1 c ∗ ∃ r, prngReg c r) from rfl,
    show (dat1 m c).Φ t1_0.succ = iprop(semVal (barCell c) 0 ∗ counters c ∗ Pipeline.scopedRest (Ix := Unit) (Name := ℕ) (U := UU) (Lvl := ℕ) (Val := Elt F) spec1 c ∗ ∃ r, prngReg c r) from rfl,
    scopedRest1_eq]
  unfold entered
  iintro ⟨⟨⟨⟨%K, Hb, Hh⟩, Hlev⟩, ⟨Hr1, Hr2, Hr3, Hr4, ⟨%f, Hg⟩⟩, Hprng⟩, Howes, ⟨%d0, H0⟩, ⟨%d1, H1⟩⟩
  ihave Howes := (owesAt_get (dat1 m c) _ (owed1_first m c)) $$ Howes
  icases Howes with ⟨%W, Howes⟩
  ihave H0 := (Entails.of_eq ((congrArg (fun X => owns (c : Thread nD τ) ((cfg1.win 0).stage (cfg1.slots t1_0 0)) fullShare X) (before1 m c t1_0 d0)).trans
    (owns_whole_eq (c : Thread nD τ) cc1_stg0_0 fullShare (blk1 m c)))) $$ H0
  icases H0 with ⟨%f0, %hf0, H0⟩
  subst hf0
  ihave H1 := (Entails.of_eq (owns_whole_eq (c : Thread nD τ) cc1_stg1_0 fullShare _)) $$ H1
  icases H1 with ⟨%f1, %hf1, H1⟩
  iapply (ringRun (gathered m) K c (blk1 m c) f1 W _ (gathered_own m c))
  isplitl [Hb Hh Hlev Hg H0 H1 Howes]
  · unfold ringPre
    isplitl [Hb]; · iexact Hb
    isplitl [Hh]; · iexact Hh
    isplitl [Hlev]; · iexact Hlev
    isplitl [Hg]; · iexists f; unfold gathPts; iexact Hg
    isplitl [H0]; · iexact H0
    isplitl [H1]; · iexact H1
    iexact Howes
  unfold ringPost
  iintro ⟨Hb0, Hc, ⟨%f', Hg⟩, H0, H1, ⟨%W', Howes⟩⟩
  isplitr [Howes H0 H1]
  · isplitl [Hb0]; · iexact Hb0
    isplitl [Hc]; · unfold counters; iexact Hc
    isplitr [Hprng]
    · isplitl [Hr1]; · iexact Hr1
      isplitl [Hr2]; · iexact Hr2
      isplitl [Hr3]; · iexact Hr3
      isplitl [Hr4]; · iexact Hr4
      iexists f'; unfold gathPts; iexact Hg
    iexact Hprng
  isplitl [Howes]; · iapply (owesAt_put (dat1 m c) t1_0.succ (owed1_last m c) rfl W'); iexact Howes
  isplitl [H0]
  · iapply (Entails.of_eq (owns_whole_eq (c : Thread nD τ) cc1_stg0_0 fullShare (blk1 m c)).symm)
    iexists _; isplitr; · ipureintro; rfl
    iexact H0
  iapply (Entails.of_eq (owns_whole_eq (c : Thread nD τ) cc1_stg1_0 fullShare (k1_out (gathered m))).symm)
  iexists _; isplitr; · ipureintro; rfl
  iexact H1

end Cert.Proof
-- ==== Proof.Regs.lean ====
/-
  The two kernels as segments of @main.
-/
module

public import proofs.«01_k».proof.Proof.Data

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The result of the second kernel on device `c`, transposed. -/
def best (c : Dev nD) : Buf (Elt F) ((c : Thread nD τ).loc main_v3) := (dat1 m c).arrAt 1 cfg1.N

/-- The unscoped buffers after the second kernel, and at the end. -/
abbrev W3 (c : Dev nD) : Valuation τ sig (Elt F) := Function.update (W2 m c) (Proc.devRef .tc main_v3) (best m c)
abbrev W4 (c : Dev nD) : Valuation τ sig (Elt F) := StableHlo.after hostOps2 (W3 m c)

theorem W2_of (c : Dev nD) (b : DevRef τ sig) (h : b ≠ Proc.devRef .tc main_v2) : W2 m c b = V1 m c b := Function.update_of_ne h ..
theorem W3_of (c : Dev nD) (b : DevRef τ sig) (h : b ≠ Proc.devRef .tc main_v3) : W3 m c b = W2 m c b := Function.update_of_ne h ..
theorem W3_v3 (c : Dev nD) : W3 m c (Proc.devRef .tc main_v3) = best m c := Function.update_self ..

theorem W4_v4 (c : Dev nD) : W4 m c (Proc.devRef .tc main_v4) = transpose S1024x32 [1, 0] (best m c) transposes_S32x1024_S1024x32_1_0 := by
  show StableHlo.after hostOps2 (W3 m c) (Proc.devRef .tc main_v4) = _
  rw [StableHlo.after_cons, StableHlo.after_nil, StableHlo.unary_result, ← W3_v3]

theorem W4_arg0 (c : Dev nD) : W4 m c (Proc.devRef .tc main_arg0) = m ((c : Thread nD τ).loc main_arg0) :=
  (StableHlo.after_of_writes_sub hostOps2 _ hostOps2_writes (by decide)).trans <|
    (W3_of m c _ (by decide)).trans <| (W2_of m c _ (by decide)).trans <| (V1_of m c main_arg0 (by decide)).trans rfl

def pdats : (p : Fin 2) → (c : Dev nD) → Dat τ (Elt F) Unit ℕ UU ℕ (cfgs p) c
  | 0 => dat0 m
  | 1 => dat1 m

/-! ## Levels -/

omit [FloatOps F] in
theorem O₀_cut (c : Dev nD) (g : GSem nD τ sig) (i : Unit) (h : 0 < O₀ c g i) : i ∈ L g ∧ 0 < lv g i := by
  rcases O₀_pos h with ⟨k, rfl⟩ | rfl | rfl
  · exact ⟨by rw [L_tc]; exact Finset.mem_singleton_self _, by rw [lv_recv]; omega⟩
  · exact ⟨by rw [L_tc]; exact Finset.mem_singleton_self _, by rw [lv_bar]; omega⟩
  · exact ⟨by rw [L_tc]; exact Finset.mem_singleton_self _, by rw [lv_bar]; omega⟩

theorem lv_win0 : ∀ (w : Fin 2) (s : Fin (spec0 w).nbuf), ((spec0 w).sem s).val < 13 := by decide
theorem lv_win1 : ∀ (w : Fin 2) (s : Fin (spec1 w).nbuf), ((spec1 w).sem s).val < 13 := by decide

theorem lv_low (c : Dev nD) (s : DmaSem sig) (h : s.val < 13) : lv ((c : Thread nD τ), .dma s) () ≤ 0 := by
  show (if 13 ≤ s.val then s.val - 11 else 0) ≤ 0
  rw [if_neg (by omega)]

/-! ## The segments -/

/-- What the two kernels pass by, beside the buffers: the ring's resources, the generator register, what is owed. -/
def before2 (c : Dev nD) : sProp 𝕄 := iprop(ready m c ∗ (∃ r, prngReg c r) ∗ ∃ W, owes (c : Thread nD τ) (O₀ c) W)
def after2 (c : Dev nD) : sProp 𝕄 :=
  iprop(semVal (barCell c) 0 ∗ (∃ r, prngReg c r) ∗ ∃ W, owes (c : Thread nD τ) (0 : CellTallies nD τ sig Unit) W)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

def host0 : ℍ := Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (before2 m)
def host2 : ℍ := Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) after2

abbrev arrs0 : Finset (DevRef τ sig) := Pipeline.arrRefs (τ := τ) spec0
abbrev arrs1 : Finset (DevRef τ sig) := Pipeline.arrRefs (τ := τ) spec1

theorem arrs0_sub : arrs0 ⊆ Pipeline.ucRefs τ sig := by decide
theorem arrs1_sub : arrs1 ⊆ Pipeline.ucRefs τ sig := by decide
theorem v2_arrs0 : Proc.devRef .tc main_v2 ∈ arrs0 := by decide
theorem v3_arrs1 : Proc.devRef .tc main_v3 ∈ arrs1 := by decide

set_option backward.isDefEq.respectTransparency.types false in
def reg0 : ℝ𝕊 0 :=
  Pipeline.RegionSeg.ofHeld (pcfgs (F := F)) adm (pdats m) () defs₀ 𝒱₀ L lv 0 O₀ (fun _ => iprop(emp)) (fun _ => iprop(emp))
    launch0.toP rfl (fun c => (body0 m c).loose) (fun _ _ => rfl) (fun _ => rfl)
    (fun c w => (dat0 m c).share_full (fun _ => rfl) w)
    (fun c => by
      show iprop(Pipeline.scopedRest spec0 c ∗ emp) ⊢ Pipeline.scopedRest spec0 c
      iintro ⟨H, -⟩; iexact H)
    (fun c => by
      show Pipeline.scopedRest spec0 c ⊢ iprop(Pipeline.scopedRest spec0 c ∗ emp)
      iintro H; isplitl [H]; · iexact H
      iempintro)
    (fun _ => 0)
    ⟨fun c w s => by rw [L_tc]; exact Finset.mem_singleton_self _, fun c w s => lv_low c _ (lv_win0 w s), O₀_cut⟩
    (fun c => iprop(StableHlo.held (c : Thread nD τ) (Pipeline.ucRefs τ sig \ arrs0) (V1 m c) ∗ ready m c ∗ ∃ r, prngReg c r))
    (V1 m) (W2 m)
    (fun c w => rfl)
    (fun c w => match w with
      | ⟨0, _⟩ => ((dat0 m c).arrAt_in 0 rfl _).trans (W2_of m c (Proc.devRef .tc main_v1) (by decide)).symm
      | ⟨1, _⟩ => (W2_v2 m c).symm)

set_option backward.isDefEq.respectTransparency.types false in
def reg1 : ℝ𝕊 1 :=
  Pipeline.RegionSeg.ofTalk (pcfgs (F := F)) adm (pdats m) () defs₀ 𝒱₀ L lv 1 osem1 (by decide : Pipeline.OwnSemFacts spec1 osem1)
    ∅ (Pipeline.ucRefs τ sig \ arrs1) (Finset.empty_subset _) launch1.toP rfl (fun c => (body1 m c).loose)
    (fun _ => 0) O₀ (fun c => (zero_add (O₀ c)).symm) (owed1_last m) (fun _ => rfl)
    (fun c w => (dat1 m c).share_full (fun _ => rfl) w)
    (W2 m) (W3 m)
    (fun c b hb => W3_of m c b fun e => (Finset.mem_sdiff.mp (Finset.mem_sdiff.mp hb).1).2 (e ▸ v3_arrs1))
    (ready m) (fun c => semVal (barCell c) 0) (entered m) (fun c => semVal (barCell c) 0) (ready_open m)
    (fun c => by
      show _ ⊢ iprop(entered m c ∗ Pipeline.scopedRest spec1 c ∗ ∃ r, prngReg c r)
      iintro ⟨Hs, Hp, -, HX⟩
      isplitl [HX]; · iexact HX
      isplitl [Hs]; · iexact Hs
      iexact Hp)
    (fun c => by
      show iprop(semVal (barCell c) 0 ∗ counters c ∗ Pipeline.scopedRest spec1 c ∗ ∃ r, prngReg c r) ⊢ _
      rw [ownSems1_eq]
      unfold StableHlo.held
      rw [BI.bigSep_empty]
      iintro ⟨Hb, Hc, Hs, Hp⟩
      isplitl [Hs]; · iexact Hs
      isplitl [Hp]; · iexact Hp
      isplitr; · iempintro
      isplitl [Hc]; · iexact Hc
      iexact Hb)
    (fun c => by iintro H; imodintro; iexact H)
    (fun _ => 0)
    ⟨fun c w s => by rw [L_tc]; exact Finset.mem_singleton_self _, fun c w s => lv_low c _ (lv_win1 w s),
      fun c t g i h => by
        have e : (dat1 m c).owed t = if t.val = 0 then O₀ c else 0 := rfl
        have h : 0 < (dat1 m c).owed t g i := h
        rw [e] at h
        split at h
        · exact O₀_cut c g i h
        · exact absurd h (Nat.lt_irrefl 0)⟩
    (fun _ => iprop(emp))
    (fun c w => rfl)
    (fun c w => match w with
      | ⟨0, _⟩ => ((dat1 m c).arrAt_in 0 rfl _).trans (W3_of m c (Proc.devRef .tc main_v2) (by decide)).symm
      | ⟨1, _⟩ => (W3_v3 m c).symm)

/-! ## The states between them -/

theorem reg0_pre (c : Dev nD) : iprop(StableHlo.held (c : Thread nD τ) (Pipeline.ucRefs τ sig) (V1 m c) ∗ before2 m c) ⊢ (reg0 m).pre c := by
  show _ ⊢ iprop(StableHlo.held (c : Thread nD τ) arrs0 (V1 m c) ∗ emp
    ∗ (StableHlo.held (c : Thread nD τ) (Pipeline.ucRefs τ sig \ arrs0) (V1 m c) ∗ ready m c ∗ ∃ r, prngReg c r) ∗ ∃ Wd, owes (c : Thread nD τ) (O₀ c) Wd)
  rw [StableHlo.held_sub_split (c : Thread nD τ) arrs0_sub (V1 m c)]
  unfold before2
  iintro ⟨⟨Ha, Hr⟩, Hg, Hp, HO⟩
  isplitl [Ha]; · iexact Ha
  isplitr; · iempintro
  isplitl [Hr Hg Hp]
  · isplitl [Hr]; · iexact Hr
    isplitl [Hg]; · iexact Hg
    iexact Hp
  iexact HO

theorem held_rest0 (c : Dev nD) : (StableHlo.held (c : Thread nD τ) (Pipeline.ucRefs τ sig \ arrs0) (V1 m c) : sProp 𝕄)
    = StableHlo.held (c : Thread nD τ) (Pipeline.ucRefs τ sig \ arrs0) (W2 m c) :=
  StableHlo.held_congr (c : Thread nD τ) fun b hb => (W2_of m c b fun e => (Finset.mem_sdiff.mp hb).2 (e ▸ v2_arrs0)).symm

theorem reg0_post (c : Dev nD) : (reg0 m).post c ⊢ iprop(StableHlo.held (c : Thread nD τ) (Pipeline.ucRefs τ sig) (W2 m c) ∗ before2 m c) := by
  show iprop(StableHlo.held (c : Thread nD τ) arrs0 (W2 m c) ∗ emp
    ∗ (StableHlo.held (c : Thread nD τ) (Pipeline.ucRefs τ sig \ arrs0) (V1 m c) ∗ ready m c ∗ ∃ r, prngReg c r) ∗ ∃ Wd, owes (c : Thread nD τ) (O₀ c) Wd) ⊢ _
  rw [held_rest0, StableHlo.held_sub_split (c : Thread nD τ) arrs0_sub (W2 m c)]
  unfold before2
  iintro ⟨Ha, -, ⟨Hr, Hg, Hp⟩, HO⟩
  isplitl [Ha Hr]
  · isplitl [Ha]; · iexact Ha
    iexact Hr
  isplitl [Hg]; · iexact Hg
  isplitl [Hp]; · iexact Hp
  iexact HO

theorem reg1_pre (c : Dev nD) : iprop(StableHlo.held (c : Thread nD τ) (Pipeline.ucRefs τ sig) (W2 m c) ∗ before2 m c) ⊢ (reg1 m).pre c := by
  show _ ⊢ iprop(StableHlo.held (c : Thread nD τ) arrs1 (W2 m c) ∗ (∃ r, prngReg c r)
    ∗ (StableHlo.held (c : Thread nD τ) (Pipeline.ucRefs τ sig \ arrs1) (W2 m c) ∗ emp) ∗ ready m c ∗ ∃ Wd, owes (c : Thread nD τ) (0 + O₀ c) Wd)
  rw [StableHlo.held_sub_split (c : Thread nD τ) arrs1_sub (W2 m c), zero_add]
  unfold before2
  iintro ⟨⟨Ha, Hr⟩, Hg, Hp, HO⟩
  isplitl [Ha]; · iexact Ha
  isplitl [Hp]; · iexact Hp
  isplitl [Hr]
  · isplitl [Hr]; · iexact Hr
    iempintro
  isplitl [Hg]; · iexact Hg
  iexact HO

theorem reg1_post (c : Dev nD) : (reg1 m).post c ⊢ iprop(StableHlo.held (c : Thread nD τ) (Pipeline.ucRefs τ sig) (W3 m c) ∗ after2 c) := by
  show iprop(StableHlo.held (c : Thread nD τ) arrs1 (W3 m c) ∗ (∃ r, prngReg c r)
    ∗ (StableHlo.held (c : Thread nD τ) (Pipeline.ucRefs τ sig \ arrs1) (W3 m c) ∗ emp) ∗ semVal (barCell c) 0
    ∗ ∃ Wd, owes (c : Thread nD τ) (0 : CellTallies nD τ sig Unit) Wd) ⊢ (_ : sProp 𝕄)
  rw [StableHlo.held_sub_split (c : Thread nD τ) arrs1_sub (W3 m c)]
  unfold after2
  iintro ⟨Ha, Hp, ⟨Hr, -⟩, Hb, HO⟩
  isplitl [Ha Hr]
  · isplitl [Ha]; · iexact Ha
    iexact Hr
  isplitl [Hb]; · iexact Hb
  isplitl [Hp]; · iexact Hp
  iexact HO

end Cert.Proof
-- ==== Proof.Run.lean ====
/-
  The launch, and the run of the whole program on the eight devices.
-/
module

public import proofs.«01_k».proof.Proof.Regs

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem osem1_inj : Function.Injective osem1 := by decide
theorem osem1_not_bar : ∀ k, osem1 k ≠ .reg barS := by decide

def barAt : Dev nD ↪ GSem nD τ sig := ⟨fun c => barCell c, fun _ _ h => congrArg (fun g : GSem nD τ sig => g.1.1) h⟩
def copyAt : Dev nD × (Fin 2 × Fin 7) ↪ GSem nD τ sig :=
  ⟨fun x => ((x.1 : Thread nD τ), osem1 x.2), fun _ _ h =>
    Prod.ext (congrArg (fun g : GSem nD τ sig => g.1.1) h) (osem1_inj (congrArg Prod.snd h))⟩

/-- The barriers' cells, and the copies', whose counters only the second kernel receives. -/
abbrev barCells : Finset (GSem nD τ sig) := Finset.univ.map barAt
abbrev copyCells : Finset (GSem nD τ sig) := Finset.univ.map copyAt

def barTok : Dev nD × Bool ↪ GSem nD τ sig × ℕ × Bool :=
  ⟨fun x => (barCell x.1, 0, x.2), fun _ _ h =>
    Prod.ext (congrArg (fun t : GSem nD τ sig × ℕ × Bool => t.1.1.1) h) (congrArg (fun t : GSem nD τ sig × ℕ × Bool => t.2.2) h)⟩
def copyTok : Dev nD × (Fin 2 × Fin 7) ↪ GSem nD τ sig × ℕ × Bool :=
  ⟨fun x => (copyAt x, 0, false), fun _ _ h => copyAt.injective (congrArg Prod.fst h)⟩

/-- A token for every duty: two at each barrier, one for each copy's end. -/
abbrev toks : Finset (GSem nD τ sig × ℕ × Bool) := Finset.univ.map barTok ∪ Finset.univ.map copyTok

theorem cells_disjoint : Disjoint barCells copyCells := by
  rw [Finset.disjoint_left]
  intro g h h'
  obtain ⟨c, -, rfl⟩ := Finset.mem_map.mp h
  obtain ⟨x, -, e⟩ := Finset.mem_map.mp h'
  exact osem1_not_bar x.2 (congrArg Prod.snd e)

theorem toks_disjoint : Disjoint (Finset.univ.map barTok) (Finset.univ.map copyTok) := by
  rw [Finset.disjoint_left]
  intro g h h'
  obtain ⟨c, -, rfl⟩ := Finset.mem_map.mp h
  obtain ⟨x, -, e⟩ := Finset.mem_map.mp h'
  exact osem1_not_bar x.2 (congrArg (fun t : GSem nD τ sig × ℕ × Bool => t.1.2) e)

theorem bar_mem (c : Dev nD) : barCell c ∈ barCells ∪ copyCells :=
  Finset.mem_union_left _ (Finset.mem_map_of_mem barAt (Finset.mem_univ c))
theorem send_mem (c : Dev nD) (h : Fin 7) : sendCell c h ∈ barCells ∪ copyCells :=
  Finset.mem_union_right _ (Finset.mem_map_of_mem copyAt (Finset.mem_univ (c, ((0 : Fin 2), h))))
theorem recv_mem (c : Dev nD) (h : Fin 7) : recvCell c h ∈ barCells ∪ copyCells :=
  Finset.mem_union_right _ (Finset.mem_map_of_mem copyAt (Finset.mem_univ (c, ((1 : Fin 2), h))))

/-! ## The launch element -/

def u₀ : UU :=
  (initOf (Pipeline.cells cfgs cellOf_inj) (Pipeline.launchToks cfgs cellOf_inj), launchOf barCells copyCells toks)

/-- A resource kept by device 0 until the launch step deals it out. -/
def parked (X : sProp 𝕄) (c : Dev nD) : sProp 𝕄 := if c = 0 then X else iprop(emp)

omit [FloatOps F] in
theorem bigSep_parked (X : sProp 𝕄) : bigSep Finset.univ (parked X) = X := by
  rw [bigSep_univ_at _ (0 : Dev nD), show bigSep (Finset.univ.erase (0 : Dev nD)) (parked X) = (BI.emp : sProp 𝕄) from
    (bigSep_congr (Ψ := fun _ => (BI.emp : sProp 𝕄)) fun c hc => if_neg (Finset.ne_of_mem_erase hc)).trans (BI.bigSep_emp_const ..)]
  unfold parked
  rw [if_pos rfl]
  exact BI.equiv_iff.mp sep_emp

def G₀ : Dev nD → sProp 𝕄 := parked (BI.own (ER (launchOf barCells copyCells toks)))

/-! ## What all devices may consult -/

def records (κ : GSem nD τ sig → ℕ) : sProp 𝕄 :=
  iprop((bigSep (barCells ∪ copyCells) fun g => cellInv ER (sched (gathered m)) (κ g) g) ∗ bigSep barCells fun g => reached ER g 0)

instance records_persistent (κ : GSem nD τ sig → ℕ) : BI.Persistent (records m κ) := by unfold records; infer_instance

theorem records_inv (κ : GSem nD τ sig → ℕ) {g : GSem nD τ sig} (hg : g ∈ barCells ∪ copyCells) :
    records m κ ⊢ cellInv ER (sched (gathered m)) (κ g) g := by
  unfold records
  iintro ⟨H, -⟩
  iapply (show (bigSep (barCells ∪ copyCells) fun g => (cellInv ER (sched (gathered m)) (κ g) g : sProp 𝕄)) ⊢ cellInv ER (sched (gathered m)) (κ g) g from
    bigSep_elim hg)
  iexact H
theorem records_bar (κ : GSem nD τ sig → ℕ) (c : Dev nD) : records m κ ⊢ (reached ER (barCell c) 0 : sProp 𝕄) := by
  unfold records
  iintro ⟨-, H⟩
  iapply (show (bigSep barCells fun g => (reached ER g 0 : sProp 𝕄)) ⊢ reached ER (barCell c) 0 from
    bigSep_elim (Finset.mem_map_of_mem barAt (Finset.mem_univ c)))
  iexact H

/-! ## What is dealt to device `c` -/

/-- For hop `h`: the rights to open its two cells, the two tokens it pays with, and its receive credit. -/
def hopShare (c : Dev nD) (h : Fin 7) : sProp 𝕄 :=
  iprop((openTok ER (sendCell c h) ∗ openTok ER (recvCell c h)) ∗ (dutyTok ER (sendCell c h) 0 false ∗ dutyTok ER (recvCell (nxt c) h) 0 false)
    ∗ cred (tallyAt (recvCell c h) () N))
/-- For the barrier: the position, the two tokens it pays the neighbours with, and its credit. -/
def barShare (c : Dev nD) : sProp 𝕄 :=
  iprop(atPos ER (barCell c) 0 ∅ 0 ∗ (dutyTok ER (barCell (prv c)) 0 false ∗ dutyTok ER (barCell (nxt c)) 0 true) ∗ cred (tallyAt (barCell c) () 2))

theorem hopStart_intro (κ : GSem nD τ sig → ℕ) (c : Dev nD) (h : Fin 7) : iprop(records m κ ∗ hopShare c h) ⊢ hopStart m κ c h := by
  unfold hopShare hopStart hopInvs
  iintro ⟨#HR, ⟨HoS, HoR⟩, ⟨HtS, HtR⟩, Hc⟩
  isplitr
  · isplitr; · iapply (records_inv m κ (send_mem c h)); iexact HR
    isplitr; · iapply (records_inv m κ (recv_mem c h)); iexact HR
    iapply (records_inv m κ (recv_mem (nxt c) h)); iexact HR
  isplitl [HoS]; · iexact HoS
  isplitl [HoR]; · iexact HoR
  isplitl [HtS]; · iexact HtS
  isplitl [HtR] <;> iassumption

theorem barGhost_intro (κ : GSem nD τ sig → ℕ) (c : Dev nD) : iprop(records m κ ∗ barShare c) ⊢ barGhost (gathered m) κ c := by
  unfold barShare barGhost barInvs
  iintro ⟨#HR, Hat, ⟨HtL, HtR⟩, Hc⟩
  isplitr
  · isplitr; · iapply (records_inv m κ (bar_mem c)); iexact HR
    isplitr; · iapply (records_inv m κ (bar_mem (nxt c))); iexact HR
    iapply (records_inv m κ (bar_mem (prv c))); iexact HR
  isplitl [Hat]; · iexact Hat
  isplitr; · iapply (records_bar m κ (nxt c)); iexact HR
  isplitr; · iapply (records_bar m κ (prv c)); iexact HR
  isplitl [HtL]; · iexact HtL
  isplitl [HtR] <;> iassumption

theorem ready_intro (κ : GSem nD τ sig → ℕ) (c : Dev nD) :
    iprop(records m κ ∗ (barShare c ∗ bigSep Finset.univ fun h : Fin 7 => hopShare c h)) ⊢ ready m c := by
  unfold ready
  iintro ⟨#HR, Hb, Hh⟩
  iexists κ
  isplitl [Hb]
  · iapply (barGhost_intro m κ c); isplitr; · iexact HR
    iexact Hb
  iapply (bigSep_with_persistent (R := records m κ) (Φ := fun h : Fin 7 => hopShare c h) fun h _ => hopStart_intro m κ c h)
  isplitr; · iexact HR
  iexact Hh

/-! ## The tokens, dealt round the ring -/

omit [FloatOps F] in
theorem bigSep_bool (Φ : Bool → sProp 𝕄) : bigSep Finset.univ Φ = iprop(Φ false ∗ Φ true) :=
  bigSep_univ_eq_bigSepL [false, true] (by decide) (by decide) Φ

/-- Every device pays its left neighbour's barrier under `false` and its right neighbour's under `true`. -/
theorem bar_dealt : bigSep (Finset.univ.map barTok) (fun x => (dutyTok ER x.1 x.2.1 x.2.2 : sProp 𝕄))
    = bigSep Finset.univ fun c : Dev nD => iprop(dutyTok ER (barCell (prv c)) 0 false ∗ dutyTok ER (barCell (nxt c)) 0 true) := by
  rw [bigSep_map, bigSep_univ_prod, bigSep_congr fun c _ => bigSep_bool _, bigSep_sep', bigSep_sep',
    bigSep_univ_equiv ring.symm (fun c : Dev nD => (dutyTok ER (barTok (c, false)).1 (barTok (c, false)).2.1 (barTok (c, false)).2.2 : sProp 𝕄)),
    bigSep_univ_equiv ring (fun c : Dev nD => (dutyTok ER (barTok (c, true)).1 (barTok (c, true)).2.1 (barTok (c, true)).2.2 : sProp 𝕄))]
  rfl

/-- Every device pays its own send cells and its right neighbour's receive cells. -/
theorem copy_dealt : bigSep (Finset.univ.map copyTok) (fun x => (dutyTok ER x.1 x.2.1 x.2.2 : sProp 𝕄))
    = bigSep Finset.univ fun c : Dev nD => bigSep Finset.univ fun h : Fin 7 =>
        iprop(dutyTok ER (sendCell c h) 0 false ∗ dutyTok ER (recvCell (nxt c) h) 0 false) := by
  rw [bigSep_map, bigSep_univ_prod, show (fun c : Dev nD => bigSep Finset.univ fun k : Fin 2 × Fin 7 =>
        (dutyTok ER (copyTok (c, k)).1 (copyTok (c, k)).2.1 (copyTok (c, k)).2.2 : sProp 𝕄))
      = fun c : Dev nD => iprop((bigSep Finset.univ fun h : Fin 7 => dutyTok ER (copyTok (c, (0, h))).1 (copyTok (c, (0, h))).2.1 (copyTok (c, (0, h))).2.2)
          ∗ bigSep Finset.univ fun h : Fin 7 => dutyTok ER (copyTok (c, (1, h))).1 (copyTok (c, (1, h))).2.1 (copyTok (c, (1, h))).2.2) from
      funext fun c => (bigSep_univ_prod _).trans (BI.bigSep_fin_two _), bigSep_sep',
    bigSep_univ_equiv ring (fun c : Dev nD => bigSep Finset.univ fun h : Fin 7 =>
      (dutyTok ER (copyTok (c, (1, h))).1 (copyTok (c, (1, h))).2.1 (copyTok (c, (1, h))).2.2 : sProp 𝕄)), ← bigSep_sep']
  refine bigSep_congr fun c _ => ?_
  rw [bigSep_sep']
  rfl

theorem open_dealt : bigSep copyCells (fun g => (openTok ER g : sProp 𝕄))
    = bigSep Finset.univ fun c : Dev nD => bigSep Finset.univ fun h : Fin 7 => iprop(openTok ER (sendCell c h) ∗ openTok ER (recvCell c h)) := by
  rw [bigSep_map, bigSep_univ_prod]
  refine bigSep_congr fun c _ => ?_
  rw [bigSep_univ_prod, BI.bigSep_fin_two, bigSep_sep']
  rfl

/-! ## The launch credit -/

theorem cell_eq_iff {d c : Dev nD} {s s' : SemLoc sig} : ((d : Thread nD τ), s) = ((c : Thread nD τ), s') ↔ d = c ∧ s = s' :=
  ⟨fun h => ⟨congrArg (fun g : GSem nD τ sig => g.1.1) h, congrArg Prod.snd h⟩, fun ⟨h, h'⟩ => by rw [h, h']⟩

theorem eq_nxt_iff {c d : Dev nD} : c = nxt d ↔ d = prv c :=
  ⟨fun h => by rw [h, prv_nxt], fun h => by rw [h, nxt_prv]⟩
theorem eq_prv_iff {c d : Dev nD} : c = prv d ↔ d = nxt c :=
  ⟨fun h => by rw [h, nxt_prv], fun h => by rw [h, prv_nxt]⟩

theorem owed_bar (d c : Dev nD) : O₀ d (barCell c) () = (if d = prv c then 1 else 0) + (if d = nxt c then 1 else 0) := by
  have h0 : OR d 0 (barCell c) () = 0 := by
    by_contra hne
    obtain ⟨h, -, e⟩ := OR_pos (Nat.pos_of_ne_zero hne)
    cases congrArg Prod.snd e
  unfold O₀
  rw [Pi.add_apply, Finsupp.add_apply, Pi.add_apply, Finsupp.add_apply, h0, tallyAt_apply, tallyAt_apply, Nat.zero_add]
  simp only [cell_eq_iff, and_true, @eq_nxt_iff c d, @eq_prv_iff c d]

theorem recvS_inj : Function.Injective fun h : Fin 7 => (SemLoc.dma (recvS h) : SemLoc sig) := by decide

theorem owed_recv (d c : Dev nD) (h : Fin 7) : O₀ d (recvCell c h) () = if d = prv c then N else 0 := by
  unfold O₀ OR
  rw [Pi.add_apply, Finsupp.add_apply, Pi.add_apply, Finsupp.add_apply,
    tallyAt_ne_cell (fun e => by cases congrArg Prod.snd e), tallyAt_ne_cell (fun e => by cases congrArg Prod.snd e),
    Finsupp.zero_apply, Nat.add_zero, Nat.add_zero, Finset.sum_apply, Finsupp.finset_sum_apply, Finset.sum_eq_single h]
  · rw [tallyAt_apply]
    simp only [cell_eq_iff, and_true, @eq_nxt_iff c d]
  · intro k _ hk
    rw [tallyAt_apply, if_neg fun e => hk (recvS_inj (congrArg Prod.snd e.1)).symm]
  · intro hn
    exact absurd (Finset.mem_filter.mpr ⟨Finset.mem_univ h, Nat.zero_le _⟩) hn

theorem launch_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1,
    if_pos (Finset.mem_univ _), if_pos (Finset.mem_univ _)]

theorem launch_recv (c : Dev nD) (h : Fin 7) :
    tallyOn (recvCell c h) (launchCredit (Pipeline.owing O₀) 0 (recvCell c h)) = (tallyAt (recvCell c h) () N : CellTallies nD τ sig Unit) := by
  unfold tallyAt
  refine congrArg _ (Finsupp.ext fun u => ?_)
  cases u
  rw [Pipeline.launchCredit_owing, Finsupp.single_eq_same, Finset.sum_congr rfl fun d _ => owed_recv d c h,
    Finset.sum_ite_eq' Finset.univ (prv c) fun _ => N, if_pos (Finset.mem_univ _)]

omit [FloatOps F] in
theorem creds (c : Dev nD) : (Pipeline.launchCred O₀ c : sProp 𝕄)
    ⊢ iprop(cred (tallyAt (barCell c) () 2) ∗ bigSep Finset.univ fun h : Fin 7 => cred (tallyAt (recvCell c h) () N)) := by
  unfold Pipeline.launchCred
  rw [bigSep_univ_at _ (SemLoc.reg barS), launch_bar]
  refine sep_mono_right ?_
  rw [← show (bigSep (Finset.univ.map ⟨_, recvS_inj⟩) fun s : SemLoc sig => cred (tallyOn ((c : Thread nD τ), s) (launchCredit (Pipeline.owing O₀) 0 ((c : Thread nD τ), s))))
      = (bigSep Finset.univ fun h : Fin 7 => cred (tallyAt (recvCell c h) () N) : sProp 𝕄) from
    (bigSep_map ..).trans (bigSep_congr fun h _ => congrArg cred (launch_recv c h))]
  refine bigSep_subset fun s hs => ?_
  obtain ⟨h, -, rfl⟩ := Finset.mem_map.mp hs
  exact Finset.mem_erase.mpr ⟨fun e => (nomatch e), Finset.mem_univ _⟩

/-! ## The launch step -/

omit [FloatOps F] in
theorem deal_split {ι : Type} {S : Finset ι} {Φ Ψ : ι → sProp 𝕄} :
    bigSep S (fun i => iprop(Φ i ∗ Ψ i)) ⊢ iprop(bigSep S Φ ∗ bigSep S Ψ) := Entails.of_eq (bigSep_sep' ..)
omit [FloatOps F] in
theorem deal_join {ι : Type} {S : Finset ι} {Φ Ψ : ι → sProp 𝕄} :
    iprop(bigSep S Φ ∗ bigSep S Ψ) ⊢ bigSep S (fun i => iprop(Φ i ∗ Ψ i)) := Entails.of_eq (bigSep_sep' ..).symm

abbrev T₀ (c : Dev nD) : sProp 𝕄 := iprop(StableHlo.held (c : Thread nD τ) (Pipeline.ucRefs τ sig) (V0 m c) ∗ before2 m c)
abbrev Tₙ (c : Dev nD) : sProp 𝕄 := iprop(StableHlo.held (c : Thread nD τ) (Pipeline.ucRefs τ sig) (W4 m c) ∗ semVal (barCell c) 0)

/-- What of a core's launch holdings passes by the ring. -/
def rest0 (c : Dev nD) : sProp 𝕄 :=
  iprop(StableHlo.held (c : Thread nD τ) (Pipeline.ucRefs τ sig) (V0 m c) ∗ (∃ r, prngReg c r) ∗ ∃ W, owes (c : Thread nD τ) (O₀ c) W)

theorem unscopedSems_bar (c : Dev nD) : (unscopedSems0 c : sProp 𝕄) = semVal (barCell c) 0 := by
  unfold unscopedSems0
  rw [show (Finset.univ.filter fun sm : SemLoc sig => ¬ sm.isScoped .tc = true) = {.reg barS} from by decide, bigSep_singleton]

theorem core_start (c : Dev nD) :
    iprop(unscopedBufs c (fun b => m ((c : Thread nD τ).loc b)) ∗ unscopedSems0 c ∗ owes (c : Thread nD τ) (O₀ c) ∅
        ∗ Pipeline.launchCred O₀ c ∗ prngReg c (ρ c) ∗ G₀ c)
      ⊢ (iprop(rest0 m c ∗ (cred (tallyAt (barCell c) () 2) ∗ (bigSep Finset.univ fun h : Fin 7 => cred (tallyAt (recvCell c h) () N))
          ∗ (semVal (barCell c) 0 ∗ G₀ c))) : sProp 𝕄) := by
  rw [show unscopedBufs c (fun b => m ((c : Thread nD τ).loc b)) = StableHlo.held (c : Thread nD τ) (Pipeline.ucRefs τ sig) (V0 m c) from
      Pipeline.unscopedBufs_held c (V0 m c), unscopedSems_bar]
  unfold rest0
  iintro ⟨Hh, Hb, HO, Hcr, Hp, HG⟩
  ihave Hc := (creds (F := F) c) $$ Hcr
  icases Hc with ⟨Hc2, HcN⟩
  isplitl [Hh Hp HO]
  · isplitl [Hh]; · iexact Hh
    isplitl [Hp]; · iexists (ρ c); iexact Hp
    iexists ∅; iexact HO
  isplitl [Hc2]; · iexact Hc2
  isplitl [HcN]; · iexact HcN
  isplitl [Hb] <;> iassumption

theorem T₀_intro (κ : GSem nD τ sig → ℕ) (c : Dev nD) :
    iprop(records m κ ∗ ((barShare c ∗ bigSep Finset.univ fun h : Fin 7 => hopShare c h) ∗ rest0 m c)) ⊢ T₀ m c := by
  unfold rest0 T₀ before2
  iintro ⟨#HR, Hs, Hh, Hp, HO⟩
  isplitl [Hh]; · iexact Hh
  isplitl [Hs]
  · iapply (ready_intro m κ c); isplitr; · iexact HR
    iexact Hs
  isplitl [Hp]; · iexact Hp
  iexact HO

theorem launch_step :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G₀ c)) ∗ levAts L lv)
      ⊢ (|={Set.univ}=> bigSep Finset.univ (T₀ m) : sProp 𝕄) := by
  have hv : bigSep Finset.univ (fun c : Dev nD => (semVal (barCell c) 0 : sProp 𝕄)) = bigSep barCells (fun g => (semVal g 0 : sProp 𝕄)) :=
    (bigSep_map (s := Finset.univ) barAt (Φ := fun g : GSem nD τ sig => (semVal g 0 : sProp 𝕄))).symm
  have hat : bigSep barCells (fun g => (atPos ER g 0 ∅ 0 : sProp 𝕄)) = bigSep Finset.univ (fun c : Dev nD => (atPos ER (barCell c) 0 ∅ 0 : sProp 𝕄)) :=
    bigSep_map (s := Finset.univ) barAt (Φ := fun g : GSem nD τ sig => (atPos ER g 0 ∅ 0 : sProp 𝕄))
  have hcores : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G₀ c))
      ⊢ (bigSep Finset.univ fun c : Dev nD => iprop(rest0 m c ∗ (cred (tallyAt (barCell c) () 2)
          ∗ (bigSep Finset.univ fun h : Fin 7 => cred (tallyAt (recvCell c h) () N)) ∗ (semVal (barCell c) 0 ∗ G₀ c))) : sProp 𝕄) :=
    bigSep_mono fun c _ => core_start m ρ c
  iintro ⟨H, -⟩
  ihave H1 := hcores $$ H
  ihave H2 := deal_split $$ H1; icases H2 with ⟨Hrest, H3⟩
  ihave H4 := deal_split $$ H3; icases H4 with ⟨Hc2, H5⟩
  ihave H6 := deal_split $$ H5; icases H6 with ⟨HcN, H7⟩
  ihave H8 := deal_split $$ H7; icases H8 with ⟨Hv, HG⟩
  ihave Hu := (show bigSep Finset.univ (G₀ (F := F)) ⊢ BI.own (ER (launchOf barCells copyCells toks)) from
    Entails.of_eq (bigSep_parked (BI.own (ER (launchOf barCells copyCells toks))))) $$ HG
  ihave Hv := (Entails.of_eq hv) $$ Hv
  imod (Rounds.fund_launch ER (sched (gathered m)) cells_disjoint (fun g _ h => h) toks) $$ [Hv Hu] with ⟨%κ, -, #Hinv, #Hr, Hat, Hopen, Htok⟩
  · isplitl [Hv] <;> iassumption
  ihave Hat := (Entails.of_eq hat) $$ Hat
  ihave Hopen := (Entails.of_eq open_dealt) $$ Hopen
  ihave Htok := (show bigSep toks (fun x => (dutyTok ER x.1 x.2.1 x.2.2 : sProp 𝕄))
      ⊢ iprop(bigSep (Finset.univ.map barTok) (fun x => dutyTok ER x.1 x.2.1 x.2.2) ∗ bigSep (Finset.univ.map copyTok) (fun x => dutyTok ER x.1 x.2.1 x.2.2)) from
    Entails.of_eq (bigSep_union toks_disjoint)) $$ Htok
  icases Htok with ⟨HtB, HtC⟩
  ihave HtB := (Entails.of_eq bar_dealt) $$ HtB
  ihave HtC := (Entails.of_eq copy_dealt) $$ HtC
  imodintro
  iapply (bigSep_with_persistent (R := records m κ)
    (Φ := fun c => iprop((barShare c ∗ bigSep Finset.univ fun h : Fin 7 => hopShare c h) ∗ rest0 m c)) fun c _ => T₀_intro m κ c)
  isplitr
  · unfold records
    isplitr; · iexact Hinv
    iexact Hr
  iapply deal_join
  isplitr [Hrest]; swap; · iexact Hrest
  iapply deal_join
  isplitl [Hat HtB Hc2]
  · unfold barShare
    iapply deal_join; isplitl [Hat]; · iexact Hat
    iapply deal_join; isplitl [HtB] <;> iassumption
  unfold hopShare
  simp only [bigSep_sep' (s := (Finset.univ : Finset (Fin 7)))]
  iapply deal_join; isplitl [Hopen]
  · iexact Hopen
  iapply deal_join; isplitl [HtC]
  · iexact HtC
  iexact HcN

/-! ## The run -/

def parts : List (Pipeline.Seg (pcfgs (F := F)) adm (pdats m) () defs₀ 𝒱₀ L lv) :=
  [.host (host0 m), .region (reg0 m), .region (reg1 m), .host (host2 m)]

theorem unscoped_bar : ∀ sm : SemLoc sig, sm.isScoped .tc = false → sm = .reg barS := by decide

set_option backward.isDefEq.respectTransparency.types false in
/-- From any memory with zero counters every weakly fair execution of @main on the eight devices ends; at the end the argument is
    as it was, the result buffer holds the transpose of `best`, and every semaphore counter is zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v4) = transpose S1024x32 [1, 0] (best m c) transposes_S32x1024_S1024x32_1_0)
      ∧ r.2.sem = fun _ => 0) :=
  Pipeline.θ_run_regions_kit_sems (pcfgs (F := F)) adm (pdats m) () cellOf_inj EP defs₀ 𝒱₀ L lv m ρ main (parts m)
    (fun c Q => by
      rewrite [main_chain c, Pipeline.Seg.run_eq_chain,
        show (parts m).map Pipeline.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (by simp only [parts, Pipeline.Seg.pipes_host, Pipeline.Seg.pipes_region, Pipeline.Seg.pipes_nil]; decide)
    (O₀ := O₀) (hL := L_of_ne) (G := G₀) (u₀ := u₀)
    (hu₀ := by
      unfold u₀ G₀
      iintro Hu
      ihave H := (ownU_pair _ _) $$ Hu
      icases H with ⟨HP, HX⟩
      imodintro
      isplitl [HP]; · iexact HP
      rw [bigSep_parked]; iexact HX)
    (T₀ := T₀ m) (Tₙ := Tₙ m)
    (hch := by
      refine ⟨fun c => .rfl, fun c => reg0_pre m c, fun c => (reg0_post m c).trans (reg1_pre m c), fun c => reg1_post m c, fun c => ?_⟩
      show iprop(StableHlo.held (c : Thread nD τ) (Pipeline.ucRefs τ sig) (W4 m c) ∗ after2 c)
        ⊢ iprop(Tₙ m c ∗ ∃ W, owes (c : Thread nD τ) (0 : CellTallies nD τ sig Unit) W)
      unfold after2
      iintro ⟨Hh, Hb, Hp, HO⟩
      isplitr [HO]
      · isplitl [Hh] <;> iassumption
      · iexact HO)
    (hinit := launch_step m ρ)
    (QY := fun c s => (s.mem ((c : Thread nD τ).loc main_arg0) = W4 m c (Proc.devRef .tc main_arg0)
        ∧ s.mem ((c : Thread nD τ).loc main_v4) = W4 m c (Proc.devRef .tc main_v4)) ∧ s.sem (barCell c) = 0)
    (hfin := fun c s' => by
      dsimp only [Tₙ]
      unfold StableHlo.held
      iintro ⟨⟨Hh, Hb⟩, HSI⟩
      icombine HSI Hb gives %hb
      ihave Hr := (pointsTo_read_all (Pipeline.ucRefs τ sig) (fun b => ((c : Thread nD τ).1, b)) (W4 m c) s') $$ [Hh HSI]
      · isplitl [Hh] <;> iassumption
      icases Hr with ⟨%h, HSI⟩
      imodintro
      isplitr
      · ipureintro
        exact ⟨⟨h (Proc.devRef .tc main_arg0) (Finset.mem_filter.mpr ⟨StableHlo.devRef_mem_tcRefs main_arg0, by decide⟩),
          h (Proc.devRef .tc main_v4) (Finset.mem_filter.mpr ⟨StableHlo.devRef_mem_tcRefs main_v4, by decide⟩)⟩, by simpa using hb⟩
      · iexact HSI)
    (hQ := fun s h hs => ⟨fun c => ⟨(h c).1.1.trans (W4_arg0 m c), (h c).1.2.trans (W4_v4 m c)⟩,
      sem_eq_zero hs fun c sm hsm => by
        obtain rfl := unscoped_bar sm hsm
        exact (h c).2⟩)

end Cert.Proof
-- ==== Proof.Frames.lean ====
/-
  The three programs run to the end, leave their argument alone and end with every counter at zero.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run
public import Idealize.ShloMosaic.Adequacy

@[expose] public section

set_option maxRecDepth 65536

noncomputable section

namespace Cert.Proof

open Idealize.ShloMosaic Idealize.SL.Sem

instance factsKernel : Cert.Kernel.Facts := Cert.Kernel.Gen.facts
instance factsKernelIdeal : Cert.KernelIdeal.Facts := Cert.KernelIdeal.Gen.facts
instance factsReferenceIdeal : Cert.ReferenceIdeal.Facts := Cert.ReferenceIdeal.Gen.facts

/-! ## The two printings are the same text -/

section
variable {F : FTy → Type} [FloatOps F]

/-- The two printings of the first kernel's body agree. -/
theorem body0_same : @Cert.Kernel.cc0_body F _ _ = @Cert.KernelIdeal.cc0_body F _ _ := rfl
/-- The two printings of the second kernel's body agree. -/
theorem body1_same : @Cert.Kernel.cc1_body F _ _ = @Cert.KernelIdeal.cc1_body F _ _ := rfl
/-- The two tables of kernel bodies agree. -/
theorem defs₀_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | 1, (t, s) => rfl
/-- The two whole tables agree. -/
theorem defs_same : Cert.Kernel.defs (F := F) = Cert.KernelIdeal.defs (F := F) :=
  congrArg (Pipeline.defs Cert.KernelIdeal.pcfgs) defs₀_same

end

/-! ## The frames -/

/-- The program over bit patterns: the one run, over them. -/
theorem frame_kernel : Cert.quiescent_Kernel := by
  intro m ρ _
  have h := (θ_run Cert.KernelIdeal.defs _ _).mono
    (Q' := fun r => (∀ c : Dev Cert.KernelIdeal.nD,
      r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0)
    (fun _ h => ⟨fun c => (h.1 c).1, h.2⟩) (run_main (F := Bits) m ρ)
  exact (congrArg (fun D => (θ_run D (onTc (τ := Cert.KernelIdeal.τ) (Cert.KernelIdeal.main (F := Bits)))
    ⟨m, fun _ => 0, ρ⟩) _) (defs_same (F := Bits))).mpr h

/-- The program over extended reals: the same run, over them. -/
theorem frame_kernelIdeal : Cert.quiescent_KernelIdeal := fun m ρ _ =>
  (θ_run Cert.KernelIdeal.defs _ _).mono (fun _ h => ⟨fun c => (h.1 c).1, h.2⟩) (run_main (F := Ideal) m ρ)

/-- The reference: its operations in order; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Extract.lean ====
/-
  Taking a maximum and masking everything that reaches it, over and over, lists the different values of a family in
  decreasing order. What the three stages of the kernel keep of a row follows from that alone.
-/
module

public import Mathlib.Data.EReal.Basic
public import Mathlib.Data.Finset.Lattice.Fold
public import Mathlib.Data.Fintype.Prod
public import Mathlib.Data.Fintype.Sigma

@[expose] public section

noncomputable section

namespace Cert.Proof

open scoped Classical

variable {ι κ μ : Type} [Fintype ι] [Fintype κ] [Fintype μ]

/-- The greatest value of a family. -/
def mx (f : ι → EReal) : EReal := Finset.univ.sup f
/-- The family with everything that reaches its greatest value masked. -/
def rest (f : ι → EReal) : ι → EReal := fun i => if mx f ≤ f i then ⊥ else f i
/-- The family after `k` rounds. -/
def st (f : ι → EReal) : ℕ → ι → EReal
  | 0 => f
  | k + 1 => rest (st f k)
/-- What round `k` takes out. -/
def pick (f : ι → EReal) (k : ℕ) : EReal := mx (st f k)

/-- The values of the family above `s`. -/
def above (f : ι → EReal) (s : EReal) : Finset EReal := (Finset.univ.image f).filter (s < ·)
/-- The values of the family from `s` on. -/
def upTo (f : ι → EReal) (s : EReal) : Finset EReal := (Finset.univ.image f).filter (s ≤ ·)

theorem mem_above {f : ι → EReal} {s w : EReal} : w ∈ above f s ↔ (∃ i, f i = w) ∧ s < w := by
  simp [above]
theorem mem_upTo {f : ι → EReal} {s w : EReal} : w ∈ upTo f s ↔ (∃ i, f i = w) ∧ s ≤ w := by
  simp [upTo]

theorem le_mx (f : ι → EReal) (i : ι) : f i ≤ mx f := Finset.le_sup (Finset.mem_univ i)

theorem mx_le {f : ι → EReal} {v : EReal} (h : ∀ i, f i ≤ v) : mx f ≤ v := Finset.sup_le fun i _ => h i

/-- The greatest value is minus infinity or one of the values. -/
theorem mx_mem (f : ι → EReal) : mx f = ⊥ ∨ ∃ i, f i = mx f := by
  by_cases h : (Finset.univ : Finset ι).Nonempty
  · obtain ⟨i, _, hi⟩ := Finset.exists_mem_eq_sup _ h f
    exact .inr ⟨i, hi.symm⟩
  · refine .inl ?_
    rw [Finset.not_nonempty_iff_eq_empty] at h
    unfold mx; rw [h, Finset.sup_empty]

/-- The first round may be done before the others. -/
theorem st_succ (f : ι → EReal) (k : ℕ) : st f (k + 1) = st (rest f) k := by
  induction k with
  | zero => rfl
  | succ k ih => show rest (st f (k + 1)) = rest (st (rest f) k); rw [ih]

theorem pick_succ (f : ι → EReal) (k : ℕ) : pick f (k + 1) = pick (rest f) k := by
  unfold pick; rw [st_succ]

/-- A round takes out minus infinity or one of the values. -/
theorem pick_mem (f : ι → EReal) (k : ℕ) : pick f k = ⊥ ∨ ∃ i, f i = pick f k := by
  induction k generalizing f with
  | zero => exact mx_mem f
  | succ k ih =>
    rw [pick_succ]
    rcases ih (rest f) with h | ⟨i, hi⟩
    · exact .inl h
    · by_cases hm : mx f ≤ f i
      · exact .inl (by rw [← hi]; unfold rest; rw [if_pos hm])
      · exact .inr ⟨i, by rw [← hi]; unfold rest; rw [if_neg hm]⟩

/-- A value with `k` different values above it is what round `k` takes out. -/
theorem pick_eq (f : ι → EReal) (k : ℕ) (v : EReal) (hv : v ≠ ⊥) (hm : ∃ i, f i = v) (hk : (above f v).card = k) :
    pick f k = v := by
  induction k generalizing f with
  | zero =>
    have he : above f v = ∅ := Finset.card_eq_zero.mp hk
    obtain ⟨i, hi⟩ := hm
    refine le_antisymm (mx_le fun j => ?_) (hi ▸ le_mx f i)
    by_contra hj
    have : f j ∈ above f v := mem_above.mpr ⟨⟨j, rfl⟩, lt_of_not_ge hj⟩
    rw [he] at this
    exact absurd this (Finset.notMem_empty _)
  | succ k ih =>
    rw [pick_succ]
    have hne : (above f v).Nonempty := Finset.card_pos.mp (by omega)
    obtain ⟨w, hw⟩ := hne
    obtain ⟨⟨j, hj⟩, hvw⟩ := mem_above.mp hw
    have hlt : v < mx f := lt_of_lt_of_le hvw (hj ▸ le_mx f j)
    have hmax : mx f ∈ above f v := by
      rcases mx_mem f with h | h
      · exact absurd hlt (by rw [h]; exact not_lt_bot)
      · exact mem_above.mpr ⟨h, hlt⟩
    refine ih (rest f) ?_ ?_
    · obtain ⟨i, hi⟩ := hm
      refine ⟨i, ?_⟩
      unfold rest
      rw [if_neg (by rw [hi]; exact not_le.mpr hlt), hi]
    · have : above (rest f) v = (above f v).erase (mx f) := by
        ext u
        rw [Finset.mem_erase, mem_above, mem_above]
        constructor
        · rintro ⟨⟨i, hi⟩, hu⟩
          unfold rest at hi
          by_cases hm' : mx f ≤ f i
          · rw [if_pos hm'] at hi; rw [← hi] at hu; exact absurd hu not_lt_bot
          · rw [if_neg hm'] at hi
            exact ⟨fun h => hm' (by rw [hi, h]), ⟨i, hi⟩, hu⟩
        · rintro ⟨hne, ⟨i, hi⟩, hu⟩
          refine ⟨⟨i, ?_⟩, hu⟩
          unfold rest
          rw [if_neg, hi]
          intro h
          exact hne (le_antisymm (hi ▸ le_mx f i) (hi ▸ h))
      rw [this, Finset.card_erase_of_mem hmax, hk]; rfl

/-! ## Keeping what matters -/

/-- `Y` keeps `X` from `s` on: it holds nothing new but minus infinity, and every value of `X` that reaches `s`. -/
def Keeps (s : EReal) (X : ι → EReal) (Y : κ → EReal) : Prop :=
  (∀ j, Y j = ⊥ ∨ ∃ i, X i = Y j) ∧ ∀ i, s ≤ X i → ∃ j, Y j = X i

theorem Keeps.upTo_eq {s : EReal} (hs : s ≠ ⊥) {X : ι → EReal} {Y : κ → EReal} (h : Keeps s X Y) : upTo Y s = upTo X s := by
  ext w
  rw [mem_upTo, mem_upTo]
  constructor
  · rintro ⟨⟨j, hj⟩, hw⟩
    rcases h.1 j with hb | ⟨i, hi⟩
    · exact absurd (le_bot_iff.mp (by rw [← hb, hj]; exact hw)) hs
    · exact ⟨⟨i, hi.trans hj⟩, hw⟩
  · rintro ⟨⟨i, hi⟩, hw⟩
    obtain ⟨j, hj⟩ := h.2 i (hi ▸ hw)
    exact ⟨⟨j, hj.trans hi⟩, hw⟩

theorem above_eq_erase (X : ι → EReal) (s : EReal) : above X s = (upTo X s).erase s := by
  ext w
  rw [Finset.mem_erase, mem_above, mem_upTo]
  constructor
  · rintro ⟨h, hl⟩; exact ⟨hl.ne', h, hl.le⟩
  · rintro ⟨hn, h, hl⟩; exact ⟨h, lt_of_le_of_ne hl hn.symm⟩

theorem Keeps.above_eq {s : EReal} (hs : s ≠ ⊥) {X : ι → EReal} {Y : κ → EReal} (h : Keeps s X Y) : above Y s = above X s := by
  rw [above_eq_erase, above_eq_erase, h.upTo_eq hs]

theorem Keeps.trans {s : EReal} (hs : s ≠ ⊥) {X : ι → EReal} {Y : κ → EReal} {Z : μ → EReal} (h : Keeps s X Y) (h' : Keeps s Y Z) :
    Keeps s X Z := by
  refine ⟨fun l => ?_, fun i hi => ?_⟩
  · rcases h'.1 l with hb | ⟨j, hj⟩
    · exact .inl hb
    · rcases h.1 j with hb | ⟨i, hi⟩
      · exact .inl (hj.symm.trans hb)
      · exact .inr ⟨i, hi.trans hj⟩
  · obtain ⟨j, hj⟩ := h.2 i hi
    obtain ⟨l, hl⟩ := h'.2 j (hj ▸ hi)
    exact ⟨l, hl.trans hj⟩

/-- As many rounds as there are different values from `s` on keep them all. -/
theorem keeps_pick {s : EReal} (hs : s ≠ ⊥) (X : ι → EReal) (n : ℕ) (h : (upTo X s).card ≤ n) :
    Keeps s X fun j : Fin n => pick X j.val := by
  refine ⟨fun j => pick_mem X j.val, fun i hi => ?_⟩
  have hb : X i ≠ ⊥ := fun hb => hs (le_bot_iff.mp (hb ▸ hi))
  have hlt : (above X (X i)).card < n := by
    refine lt_of_lt_of_le (Finset.card_lt_card ?_) h
    refine ⟨fun w hw => ?_, fun hsub => ?_⟩
    · obtain ⟨hw, hl⟩ := mem_above.mp hw
      exact mem_upTo.mpr ⟨hw, hi.trans hl.le⟩
    · exact absurd (mem_above.mp (hsub (mem_upTo.mpr ⟨⟨i, rfl⟩, hi⟩))).2 (lt_irrefl _)
  exact ⟨⟨_, hlt⟩, pick_eq X _ _ hb ⟨i, rfl⟩ rfl⟩

/-- Families kept one by one are kept together. -/
theorem Keeps.parts {α : Type} [Fintype α] {s : EReal} {X : α → ι → EReal} {Y : α → κ → EReal} (h : ∀ a, Keeps s (X a) (Y a)) :
    Keeps s (fun p : α × ι => X p.1 p.2) (fun p : α × κ => Y p.1 p.2) := by
  refine ⟨fun ⟨a, j⟩ => ?_, fun ⟨a, i⟩ hi => ?_⟩
  · rcases (h a).1 j with hb | ⟨i, hi⟩
    · exact .inl hb
    · exact .inr ⟨(a, i), hi⟩
  · obtain ⟨j, hj⟩ := (h a).2 i hi
    exact ⟨(a, j), hj⟩

/-- A family listed in another order keeps it. -/
theorem keeps_of_equiv (s : EReal) (X : ι → EReal) (e : κ ≃ ι) : Keeps s X (X ∘ e) :=
  ⟨fun j => .inr ⟨e j, rfl⟩, fun i _ => ⟨e.symm i, by simp⟩⟩

theorem upTo_part {α : Type} [Fintype α] (X : α → ι → EReal) (a : α) (s : EReal) :
    upTo (X a) s ⊆ upTo (fun p : α × ι => X p.1 p.2) s := fun w hw => by
  obtain ⟨⟨i, hi⟩, hl⟩ := mem_upTo.mp hw
  exact mem_upTo.mpr ⟨⟨(a, i), hi⟩, hl⟩

/-- THE THREE STAGES. A row is cut into the parts of eight devices, each into pools. Every pool gives the values of `J`
    rounds, each device those of `K` rounds over all its pools' values, and the last stage takes round `k` over all the
    devices' values. If `s` is a value of the row above minus infinity with exactly `k < K` different values above it,
    and no pool holds more than `J` different values that reach `s`, the last stage's round `k` gives `s`. -/
theorem three_stages {D Q : Type} [Fintype D] [Fintype Q] (X : D → Q → ι → EReal) (J K k : ℕ) (s : EReal) (hs : s ≠ ⊥)
    (hm : ∃ c q i, X c q i = s)
    (hk : (above (fun p : D × Q × ι => X p.1 p.2.1 p.2.2) s).card = k) (hK : k < K)
    (hJ : ∀ c q, (upTo (X c q) s).card ≤ J)
    (P : D → κ → EReal) (e : κ ≃ Q × Fin J) (hP : ∀ c j, P c j = pick (X c (e j).1) (e j).2.val)
    (G : μ → EReal) (e' : μ ≃ D × Fin K) (hG : ∀ l, G l = pick (P (e' l).1) (e' l).2.val) :
    pick G k = s := by
  have h1 : ∀ c, Keeps s (fun p : Q × ι => X c p.1 p.2) (P c) := fun c => by
    have hp := Keeps.parts (α := Q) fun q => keeps_pick hs (X c q) J (hJ c q)
    have he := keeps_of_equiv s (fun p : Q × Fin J => pick (X c p.1) p.2.val) e
    have : P c = (fun p : Q × Fin J => pick (X c p.1) p.2.val) ∘ e := funext fun j => hP c j
    rw [this]
    exact hp.trans hs he
  have hup : (upTo (fun p : D × Q × ι => X p.1 p.2.1 p.2.2) s).card ≤ K := by
    have := Finset.pred_card_le_card_erase (s := upTo (fun p : D × Q × ι => X p.1 p.2.1 p.2.2) s) (a := s)
    rw [← above_eq_erase, hk] at this
    omega
  have h2 : ∀ c, Keeps s (P c) fun j : Fin K => pick (P c) j.val := fun c => by
    refine keeps_pick hs (P c) K ?_
    rw [(h1 c).upTo_eq hs]
    exact (Finset.card_le_card (upTo_part (fun c (p : Q × ι) => X c p.1 p.2) c s)).trans hup
  have h3 : Keeps s (fun p : D × Q × ι => X p.1 p.2.1 p.2.2) G := by
    have hp := Keeps.parts (α := D) fun c => (h1 c).trans hs (h2 c)
    have he := keeps_of_equiv s (fun p : D × Fin K => pick (P p.1) p.2.val) e'
    have : G = (fun p : D × Fin K => pick (P p.1) p.2.val) ∘ e' := funext hG
    rw [this]
    exact hp.trans hs he
  refine pick_eq G k s hs ?_ ?_
  · obtain ⟨c, q, i, hi⟩ := hm
    obtain ⟨j, hj⟩ := h3.2 (c, q, i) hi.ge
    exact ⟨j, hj.trans hi⟩
  · rw [h3.above_eq hs, hk]

end Cert.Proof

end
-- ==== Proof.Picks.lean ====
/-
  The rounds of the kernels' bodies, read at one column over the extended reals, are the rounds of `Extract`.
-/
module

public import proofs.«01_k».proof.Proof.Values
public import proofs.«01_k».proof.Proof.Extract
public import Idealize.ShloMosaic.Lib.ValueIdx
public import Idealize.ShloMosaic.Lib.Pipeline.Value
public import Idealize.ShloMosaic.PureOps.Ideal.Laws

@[expose] public section

set_option maxRecDepth 65536

noncomputable section

namespace Cert.Proof

open Cert.KernelIdeal Cert.KernelIdeal.Gen
open Idealize.ShloMosaic Idealize.ShloMosaic.ValueIdx

/-- The word of minus infinity is the least extended real. -/
theorem negInf_eq : FloatOps.ofBits (F := Ideal) .f32 0xFF800000#32 = (⊥ : EReal) := by
  show Ideal.ofBits .f32 0xFF800000#32 = ⊥
  simp [Ideal.ofBits, Ideal.ieee]

/-- A maximum folded from minus infinity is the greatest value. -/
theorem fold_eq_mx {ι : Type} [Fintype ι] (f : ι → EReal) :
    (Finset.univ : Finset ι).fold max (FloatOps.ofBits (F := Ideal) .f32 0xFF800000#32 : EReal) f = mx f := by
  rw [negInf_eq]; rfl

/-- The choice of a masked value by a comparison. -/
theorem select_ge (x y a b : EReal) :
    Scalar.select (Ideal.cmp .oge x y) a b = if y ≤ x then a else b := by
  unfold Scalar.select Ideal.cmp
  by_cases h : y ≤ x
  · simp [h]
  · simp [h]

/-- One round of masking at an index: the mask word where the entry reaches the row's, the entry elsewhere. -/
theorem masked_apply {s : Shape} (a b : FVec Ideal s .f32) (w : BitVec 32) (j : s.Idx) :
    select (cmpf .oge a b) (broadcast s (Scalar.ofBits (F := Ideal) .f32 w)) a j
      = if (b j : EReal) ≤ a j then (FloatOps.ofBits (F := Ideal) .f32 w : EReal) else a j :=
  select_ge (a j) (b j) _ _

/-- A list of thirty-two written out is the function it lists. -/
theorem vec32 {α : Type} (g : ℕ → α) :
    (![g 0, g 1, g 2, g 3, g 4, g 5, g 6, g 7, g 8, g 9, g 10, g 11, g 12, g 13, g 14, g 15, g 16, g 17, g 18, g 19, g 20, g 21, g 22, g 23, g 24, g 25, g 26, g 27, g 28, g 29, g 30, g 31] : Fin 32 → α) = fun k => g k.val := by
  funext k; fin_cases k <;> rfl

/-- A list of eight written out is the function it lists. -/
theorem vec8 {α : Type} (g : ℕ → α) :
    (![g 0, g 1, g 2, g 3, g 4, g 5, g 6, g 7] : Fin 8 → α) = fun k => g k.val := by
  funext k; fin_cases k <;> rfl

/-! ## The gathered candidates -/

/-- Column `i` of the gathered candidates. -/
def colL (a : FVec Ideal S256x1024 .f32) (i : Fin 1024) : Fin 256 → EReal := fun r => a (ix2 r i)

theorem colL_apply (a : FVec Ideal S256x1024 .f32) (i : Fin 1024) (r : Fin 256) : colL a i r = a (ix2 r i) := rfl

theorem mxL_apply (a : FVec Ideal S256x1024 .f32) (i : Fin 1024) : mxL a (ix1 i) = mx (colL a i) := by
  refine (Ideal.multiReduction_maximumf_single a _ _ _ _ _).trans ((fold_eq_mx _).trans ?_)
  refine congrArg mx (funext fun r => congrArg a ?_)
  funext d
  match d with
  | ⟨0, _⟩ => rfl
  | ⟨1, _⟩ => rfl

theorem rowL_apply (t : FVec Ideal S1024 .f32) (i : Fin 1024) : rowL t (ix2 (0 : Fin 1) i) = t (ix1 i) :=
  shapeCast_apply t _ _ _ (by
    rw [Shape.rowMajor_val_one, Shape.rowMajor_val_two]
    show i.val = 0 * 1024 + i.val
    omega)

theorem colL_maskL (a : FVec Ideal S256x1024 .f32) (i : Fin 1024) : colL (maskL a) i = rest (colL a i) := by
  funext r
  have hb : broadcastTo S256x1024 (rowL (mxL a)) broadcasts_S1x1024_S256x1024 (ix2 r i) = mx (colL a i) :=
    (broadcastTo_apply _ _ (ix2 r i) (ix2 (0 : Fin 1) i) (fun d => match d with
    | ⟨0, _⟩ => rfl
    | ⟨1, _⟩ => rfl)).trans ((rowL_apply _ i).trans (mxL_apply a i))
  rw [colL_apply]
  unfold maskL selL geL negL
  rw [masked_apply a _ _ (ix2 r i)]
  rw [hb, negInf_eq]
  rfl

theorem colL_stL (P : FVec Ideal S256x1024 .f32) (i : Fin 1024) (k : ℕ) : colL (stL P k) i = st (colL P i) k := by
  induction k with
  | zero => rfl
  | succ k ih => show colL (maskL (stL P k)) i = rest (st (colL P i) k); rw [colL_maskL, ih]

theorem catL_apply (f : Fin 32 → FVec Ideal S1x1024 .f32) (k : Fin 32) (i : Fin 1024) :
    catL f (ix2 k i) = f k (ix2 (0 : Fin 1) i) := by
  unfold catL
  exact concatenate_ofFn_apply (s₁ := S1x1024) (t := S32x1024) (0 : Fin 2) f _ rfl 1 rfl (ix2 k i) k (Nat.div_one _) (ix2 (0 : Fin 1) i)
    (by show 0 = k.val % 1; omega) (fun b hb => match b with
      | ⟨0, _⟩ => absurd rfl hb
      | ⟨1, _⟩ => rfl)

/-- Row `k` of the second kernel's result, at column `i`, is what round `k` takes out of the gathered column. -/
theorem outL_apply (P : FVec Ideal S256x1024 .f32) (k : Fin 32) (i : Fin 1024) :
    outL P (ix2 k i) = pick (colL P i) k.val := by
  unfold outL
  refine (congrArg (fun f => catL f (ix2 k i)) (vec32 (fun n => rowL (mxL (stL P n))))).trans ?_
  refine (catL_apply _ k i).trans ((rowL_apply _ i).trans ((mxL_apply _ i).trans ?_))
  rw [colL_stL]
  rfl

/-! ## The candidates of one column block -/

/-- Column `i` of the candidates of one column block. -/
def colA (a : FVec Ideal S256x256 .f32) (i : Fin 256) : Fin 256 → EReal := fun r => a (ix2 r i)

theorem colA_apply (a : FVec Ideal S256x256 .f32) (i r : Fin 256) : colA a i r = a (ix2 r i) := rfl

theorem mxA_apply (a : FVec Ideal S256x256 .f32) (i : Fin 256) : mxA a (ix1 i) = mx (colA a i) := by
  refine (Ideal.multiReduction_maximumf_single a _ _ _ _ _).trans ((fold_eq_mx _).trans ?_)
  refine congrArg mx (funext fun r => congrArg a ?_)
  funext d
  match d with
  | ⟨0, _⟩ => rfl
  | ⟨1, _⟩ => rfl

theorem rowA_apply (t : FVec Ideal S256 .f32) (i : Fin 256) : rowA t (ix2 (0 : Fin 1) i) = t (ix1 i) :=
  shapeCast_apply t _ _ _ (by
    rw [Shape.rowMajor_val_one, Shape.rowMajor_val_two]
    show i.val = 0 * 256 + i.val
    omega)

theorem colA_maskA (a : FVec Ideal S256x256 .f32) (i : Fin 256) : colA (maskA a) i = rest (colA a i) := by
  funext r
  have hb : broadcastTo S256x256 (rowA (mxA a)) broadcasts_S1x256_S256x256 (ix2 r i) = mx (colA a i) :=
    (broadcastTo_apply _ _ (ix2 r i) (ix2 (0 : Fin 1) i) (fun d => match d with
    | ⟨0, _⟩ => rfl
    | ⟨1, _⟩ => rfl)).trans ((rowA_apply _ i).trans (mxA_apply a i))
  rw [colA_apply]
  unfold maskA selA geA negA
  rw [masked_apply a _ _ (ix2 r i)]
  rw [hb, negInf_eq]
  rfl

theorem colA_stA (P : FVec Ideal S256x256 .f32) (i : Fin 256) (k : ℕ) : colA (stA P k) i = st (colA P i) k := by
  induction k with
  | zero => rfl
  | succ k ih => show colA (maskA (stA P k)) i = rest (st (colA P i) k); rw [colA_maskA, ih]

theorem catA_apply (f : Fin 32 → FVec Ideal S1x256 .f32) (k : Fin 32) (i : Fin 256) :
    catA f (ix2 k i) = f k (ix2 (0 : Fin 1) i) := by
  unfold catA
  exact concatenate_ofFn_apply (s₁ := S1x256) (t := S32x256) (0 : Fin 2) f _ rfl 1 rfl (ix2 k i) k (Nat.div_one _) (ix2 (0 : Fin 1) i)
    (by show 0 = k.val % 1; omega) (fun b hb => match b with
      | ⟨0, _⟩ => absurd rfl hb
      | ⟨1, _⟩ => rfl)

/-- Row `k` of the first kernel's block, at column `i`, is what round `k` takes out of the pools' values there. -/
theorem outA_apply (P : FVec Ideal S256x256 .f32) (k : Fin 32) (i : Fin 256) :
    outA P (ix2 k i) = pick (colA P i) k.val := by
  unfold outA
  refine (congrArg (fun f => catA f (ix2 k i)) (vec32 (fun n => rowA (mxA (stA P n))))).trans ?_
  refine (catA_apply _ k i).trans ((rowA_apply _ i).trans ((mxA_apply _ i).trans ?_))
  rw [colA_stA]
  rfl

/-! ## The pools of one column block -/

/-- Pool `p` at column `i`. -/
def colP (a : FVec Ideal S32x256x256 .f32) (p : Fin 32) (i : Fin 256) : Fin 256 → EReal := fun r => a (ix3 p r i)

theorem colP_apply (a : FVec Ideal S32x256x256 .f32) (p : Fin 32) (i r : Fin 256) : colP a p i r = a (ix3 p r i) := rfl

theorem mxP_apply (a : FVec Ideal S32x256x256 .f32) (p : Fin 32) (i : Fin 256) : mxP a (ix2 p i) = mx (colP a p i) := by
  refine (Ideal.multiReduction_maximumf_single a _ _ _ _ _).trans ((fold_eq_mx _).trans ?_)
  refine congrArg mx (funext fun r => congrArg a ?_)
  funext d
  match d with
  | ⟨0, _⟩ => rfl
  | ⟨1, _⟩ => rfl
  | ⟨2, _⟩ => rfl

theorem rowP_apply (t : FVec Ideal S32x256 .f32) (p : Fin 32) (i : Fin 256) : rowP t (ix3 p (0 : Fin 1) i) = t (ix2 p i) :=
  shapeCast_apply t _ _ _ (by
    rw [Shape.rowMajor_val_two, Shape.rowMajor_val_three]
    show p.val * 256 + i.val = (p.val * 1 + 0) * 256 + i.val
    omega)

theorem colP_maskP (a : FVec Ideal S32x256x256 .f32) (p : Fin 32) (i : Fin 256) : colP (maskP a) p i = rest (colP a p i) := by
  funext r
  have hb : broadcastTo S32x256x256 (rowP (mxP a)) broadcasts_S32x1x256_S32x256x256 (ix3 p r i) = mx (colP a p i) :=
    (broadcastTo_apply _ _ (ix3 p r i) (ix3 p (0 : Fin 1) i) (fun d => match d with
    | ⟨0, _⟩ => rfl
    | ⟨1, _⟩ => rfl
    | ⟨2, _⟩ => rfl)).trans ((rowP_apply _ p i).trans (mxP_apply a p i))
  rw [colP_apply]
  unfold maskP selP geP negP
  rw [masked_apply a _ _ (ix3 p r i)]
  rw [hb, negInf_eq]
  rfl

theorem colP_stP (P : FVec Ideal S32x256x256 .f32) (p : Fin 32) (i : Fin 256) (k : ℕ) : colP (stP P k) p i = st (colP P p i) k := by
  induction k with
  | zero => rfl
  | succ k ih => show colP (maskP (stP P k)) p i = rest (st (colP P p i) k); rw [colP_maskP, ih]

theorem catP_apply (f : Fin 8 → FVec Ideal S32x256 .f32) (j : Fin 8) (p : Fin 32) (i : Fin 256) (r : Fin 256) (hr : r.val = j.val * 32 + p.val) :
    catP f (ix2 r i) = f j (ix2 p i) := by
  unfold catP
  exact concatenate_ofFn_apply (s₁ := S32x256) (t := S256x256) (0 : Fin 2) f _ rfl 32 rfl (ix2 r i) j (by show r.val / 32 = j.val; omega) (ix2 p i)
    (by show p.val = r.val % 32; omega) (fun b hb => match b with
      | ⟨0, _⟩ => absurd rfl hb
      | ⟨1, _⟩ => rfl)

/-- Candidate `32 j + p` of one column block is what round `j` takes out of pool `p`. -/
theorem outP_apply (P : FVec Ideal S32x256x256 .f32) (j : Fin 8) (p : Fin 32) (i : Fin 256) (r : Fin 256) (hr : r.val = j.val * 32 + p.val) :
    outP P (ix2 r i) = pick (colP P p i) j.val := by
  unfold outP
  refine (congrArg (fun f => catP f (ix2 r i)) (vec8 (fun n => mxP (stP P n)))).trans ?_
  refine (catP_apply _ j p i r hr).trans ((mxP_apply _ p i).trans ?_)
  rw [colP_stP]
  rfl

end Cert.Proof

end
-- ==== Proof.Reads.lean ====
/-
  The kernel's result, read at an index: three nested rounds of taking maxima out of the devices' blocks.
-/
module

public import proofs.«01_k».proof.Proof.Regs
public import proofs.«01_k».proof.Proof.Picks
public import Idealize.ShloMosaic.Lib.Pipeline.ValueKit

@[expose] public section

set_option maxRecDepth 65536

noncomputable section

namespace Cert.Proof

open Cert.KernelIdeal Cert.KernelIdeal.Gen
open Idealize.ShloMosaic hiding ix1 ix2 ix3
open Idealize.ShloMosaic.ValueIdx
open Idealize.ShloMosaic.TcCoe

variable (m : (ℓ : Loc nD τ sig) → Buf (Elt Ideal) ℓ)

/-- The block of the argument on device `c`. -/
abbrev argOf (c : Dev nD) : FVec Ideal S1024x8192 .f32 := m ((c : Thread nD τ).loc main_arg0)

/-- Place `q` of the pool that candidate `r` comes from, as a column of the device's block. -/
def spot (r q : Fin 256) : Fin 8192 := ⟨(r.val % 32) * 256 + q.val, by omega⟩

/-- Candidate `r` of row `i` of a block: what round `r / 32` takes out of pool `r % 32`. -/
def pooled (x : FVec Ideal S1024x8192 .f32) (i : Fin 1024) (r : Fin 256) : EReal :=
  pick (fun q : Fin 256 => (x (ix2 i (spot r q)) : EReal)) (r.val / 32)

/-- Which device the gathered candidate `l` comes from, and its round there. -/
def fromDev (l : Fin 256) : Dev nD := ⟨l.val / 32, by show l.val / 32 < 8; omega⟩
def fromRound (l : Fin 256) : Fin 32 := ⟨l.val % 32, by omega⟩

/-! ## The first kernel -/

/-- The pools of a loaded block, at one column. -/
theorem colP_pay4 (v : Vec Ideal S8192x256 .f32) (p : Fin 32) (i q : Fin 256) :
    colP (k0_pay4 v) p i q = v (ix2 (⟨p.val * 256 + q.val, by omega⟩ : Fin 8192) i) := by
  rw [colP_apply]
  unfold k0_pay4
  refine (shapeCast_apply _ _ (ix3 p q i) (ix2 (⟨p.val * 256 + q.val, by omega⟩ : Fin 8192) i) ?_).trans ?_
  · rw [Shape.rowMajor_val_two, Shape.rowMajor_val_three]
    rfl
  · exact shapeCast_apply _ _ _ _ rfl

/-- The first kernel's block at an index. -/
theorem k0_out_apply (v : Vec Ideal S8192x256 .f32) (k : Fin 32) (i : Fin 256) :
    k0_out v (ix2 k i) = pick (fun r : Fin 256 => pick (fun q : Fin 256 => (v (ix2 (spot r q) i) : EReal)) (r.val / 32)) k.val := by
  rw [k0_out_eq, outA_apply]
  refine congrArg (fun f => pick f k.val) (funext fun r => ?_)
  rw [colA_apply]
  refine (outP_apply _ (⟨r.val / 32, by omega⟩ : Fin 8) (⟨r.val % 32, by omega⟩ : Fin 32) i r (by show r.val = r.val / 32 * 32 + r.val % 32; omega)).trans ?_
  exact congrArg (fun f => pick f (r.val / 32)) (funext fun q => colP_pay4 v _ i q)

/-- The block indices of the first kernel's windows. -/
theorem idx0 : ∀ t : Fin cfg0.N, win0_0.index t = ![0, t.val] ∧ win0_1.index t = ![0, t.val] :=
  (by decide +kernel : ∀ t : Fin grid0.N, _)

/-- The transposed argument. -/
theorem V1_v1 (c : Dev nD) (j : Fin 8192) (i : Fin 1024) : V1 m c main_v1 (ix2 j i) = argOf m c (ix2 i j) := by
  have h : V1 m c main_v1 = transpose S8192x1024 [1, 0] (argOf m c) transposes_S1024x8192_S8192x1024_1_0 := by
    show StableHlo.after hostOps0 (V0 m c) (Proc.devRef .tc main_v1) = _
    rw [StableHlo.after_cons, StableHlo.after_nil, StableHlo.unary_result]
  rw [h]
  exact transpose_apply _ _ _ _ _ (fun d => match d with
    | ⟨0, _⟩ => rfl
    | ⟨1, _⟩ => rfl)

/-- A loaded block at an index. -/
theorem blk0_apply (c : Dev nD) (t : Fin cfg0.N) (j : Fin 8192) (i : Fin 256) (h : t.val * 256 + i.val < 1024) :
    blk0 m c t (ix2 j i) = argOf m c (ix2 (⟨t.val * 256 + i.val, h⟩ : Fin 1024) j) := by
  rw [← V1_v1]
  unfold blk0
  blk_ext [idx0 t]

/-- What the first kernel leaves, at an index. -/
theorem cand_eq (c : Dev nD) : cand m c = fun i => pick (pooled (argOf m c) (i 1)) (i 0).val := by
  unfold cand
  refine (dat0 m c).arrAt_eq_of_covers 1 _ (by decide +kernel) fun t hf y => ?_
  have key : ∀ (k : Fin 32) (i : Fin 256) (e : Fin 1024), e.val = t.val * 256 + i.val →
      k0_out (blk0 m c t) (ix2 k i) = pick (pooled (argOf m c) e) k.val := fun k i e he => by
    rw [k0_out_apply]
    refine congrArg (fun f => pick f k.val) (funext fun r => ?_)
    unfold pooled
    refine congrArg (fun f => pick f (r.val / 32)) (funext fun q => ?_)
    rw [blk0_apply m c t (spot r q) i (he ▸ e.isLt)]
    exact congrArg (fun a => argOf m c (ix2 a (spot r q))) (Fin.ext he.symm)
  have hy : (y : S32x256.Idx) = ix2 (y 0 : Fin 32) (y 1 : Fin 256) := ValueIdx.eq_ix2 y
  have h1 : (((win0_1.blk t).view.emb y 1 : Fin 1024)).val = t.val * 256 + (y 1).val := by blk_simp [idx0 t]
  have h0 : (((win0_1.blk t).view.emb y 0 : Fin 32)).val = (y 0).val := by blk_simp [idx0 t]
  refine Eq.trans (congrArg (k0_out (blk0 m c t)) hy) ((key _ _ _ h1).trans ?_)
  exact congrArg (pick _) h0.symm

/-! ## The second kernel -/

/-- The block index of the second kernel's operand. -/
theorem idx1 : ∀ t : Fin cfg1.N, win1_0.index t = ![0, 0] :=
  (by decide +kernel : ∀ t : Fin grid1.N, _)

/-- The second kernel loads all the candidates. -/
theorem blk1_eq (c : Dev nD) : blk1 m c = cand m c := by
  unfold blk1
  funext i
  blk_ext [idx1 t1_0]

/-- The gathered candidates at an index. -/
theorem gathered_apply (d : Dev nD) (k : Fin 32) (i : Fin 1024) :
    gathered m (ix3 d k i) = pick (pooled (argOf m d) i) k.val := by
  have h : gathered m (ix3 d k i) = k1_pay2 (F := Ideal) (blk1 m d) (ix3 (0 : Fin 1) k i) := by
    unfold gathered
    refine congrArg (k1_pay2 (F := Ideal) (blk1 m d)) (funext fun a => ?_)
    match a with
    | ⟨0, _⟩ => rfl
    | ⟨1, _⟩ => rfl
    | ⟨2, _⟩ => rfl
  rw [h]
  unfold k1_pay2
  refine (shapeCast_apply _ _ (ix3 (0 : Fin 1) k i) (ix3 (0 : Fin 1) k i) rfl).trans ?_
  refine (shapeCast_apply _ _ (ix3 (0 : Fin 1) k i) (ix2 k i) ?_).trans ?_
  · rw [Shape.rowMajor_val_two, Shape.rowMajor_val_three]
    show k.val * 1024 + i.val = (0 * 32 + k.val) * 1024 + i.val
    omega
  refine (shapeCast_apply _ _ (ix2 k i) (ix2 k i) rfl).trans ?_
  rw [blk1_eq, cand_eq]
  rfl

/-- The second kernel writes its array in one piece. -/
theorem best_eq (c : Dev nD) : best m c = k1_out (gathered m) := by
  unfold best
  refine (dat1 m c).arrAt_eq_of_after_last 1 t1_0 (by decide +kernel) _ fun j => ?_
  rfl

/-- What the second kernel leaves, at an index. -/
theorem best_apply (c : Dev nD) (k : Fin 32) (i : Fin 1024) :
    best m c (ix2 k i) = pick (fun l : Fin 256 => pick (pooled (argOf m (fromDev l)) i) (fromRound l).val) k.val := by
  rw [best_eq, k1_out_eq, outL_apply]
  refine congrArg (fun f => pick f k.val) (funext fun l => ?_)
  rw [colL_apply]
  unfold k1_pay3
  refine (shapeCast_apply _ _ (ix2 l i) (ix3 (fromDev l) (fromRound l) i) ?_).trans (gathered_apply m _ _ _)
  rw [Shape.rowMajor_val_two, Shape.rowMajor_val_three]
  show (l.val / 32 * 32 + l.val % 32) * 1024 + i.val = l.val * 1024 + i.val
  omega

end Cert.Proof

end
-- ==== Proof.Order.lean ====
/-
  Sorting a row of extended reals: the order of its positions, what a sort of the host reads, and what the sorted row
  says of the values above one of its entries.
-/
module

public import proofs.«01_k».proof.Proof.Extract
public import Idealize.ShloMosaic.Lib.SortFacts
public import Idealize.ShloMosaic.Lib.ValueIdx
public import Idealize.ShloMosaic.PureOps.Ideal.Laws

@[expose] public section

noncomputable section

namespace Cert.Proof

open Idealize.ShloMosaic Idealize.ShloMosaic.ValueIdx
open scoped Classical

/-- The positions of a row, least value first. -/
def order {n : ℕ} (f : Fin n → EReal) : Fin n → Fin n := sortedFrom fun a b => Ideal.cmp .olt (f a) (f b) == 1#1

theorem cmp_olt_iff (a b : EReal) : (Ideal.cmp .olt a b == 1#1) = decide (a < b) := by
  unfold Ideal.cmp
  by_cases h : a < b <;> simp [h]

theorem lt_of_cmp {a b : EReal} (h : Ideal.cmp .olt a b = 1#1) : a < b := by
  have := cmp_olt_iff a b
  rw [h] at this
  simpa using this.symm

theorem order_bijective {n : ℕ} (f : Fin n → EReal) : Function.Bijective (order f) :=
  ⟨sortedFrom_injective _, sortedFrom_surjective _⟩

/-- The sorted row is monotone. -/
theorem order_mono {n : ℕ} (f : Fin n → EReal) {i j : Fin n} (h : i ≤ j) : f (order f i) ≤ f (order f j) := by
  rcases h.lt_or_eq with h | rfl
  · have := sortedFrom_noInversion (fun a b => Ideal.cmp .olt (f a) (f b) == 1#1) (fun a b => Ideal.cmp .olt (f a) (f b) == 1#1)
      (fun a b h => by rw [cmp_olt_iff] at h ⊢; simp only [decide_eq_true_eq, decide_eq_false_iff_not, not_lt] at h ⊢; exact h.le)
      (fun _ _ h => h)
      (fun a b c h1 h2 => by
        rw [cmp_olt_iff] at h1 h2 ⊢; simp only [decide_eq_false_iff_not, not_lt] at h1 h2 ⊢; exact h2.trans h1) i j h
    rw [cmp_olt_iff, decide_eq_false_iff_not, not_lt] at this
    exact this
  · exact le_rfl

/-! ## What a sort of the host reads -/

/-- The comparison of two extended reals as the sorts write it: first the two zeros and the not-a-numbers are made
    one each, then the order decides. -/
theorem comparator_eq (l r : EReal) :
    FloatOps.cmpfTotal (F := Ideal) (φ := .f32) .lt
      (Scalar.select (FloatOps.cmpf (F := Ideal) (φ := .f32) .une l l) (FloatOps.ofBits (F := Ideal) .f32 0x7FC00000#32)
        (Scalar.select (FloatOps.cmpf (F := Ideal) (φ := .f32) .oeq l (FloatOps.ofBits (F := Ideal) .f32 0x00000000#32)) (FloatOps.ofBits (F := Ideal) .f32 0x00000000#32) l))
      (Scalar.select (FloatOps.cmpf (F := Ideal) (φ := .f32) .une r r) (FloatOps.ofBits (F := Ideal) .f32 0x7FC00000#32)
        (Scalar.select (FloatOps.cmpf (F := Ideal) (φ := .f32) .oeq r (FloatOps.ofBits (F := Ideal) .f32 0x00000000#32)) (FloatOps.ofBits (F := Ideal) .f32 0x00000000#32) r))
      = Ideal.cmp .olt l r := by
  have h : ∀ x : EReal, (Scalar.select (FloatOps.cmpf (F := Ideal) (φ := .f32) .une x x) (FloatOps.ofBits (F := Ideal) .f32 0x7FC00000#32)
        (Scalar.select (FloatOps.cmpf (F := Ideal) (φ := .f32) .oeq x (FloatOps.ofBits (F := Ideal) .f32 0x00000000#32)) (FloatOps.ofBits (F := Ideal) .f32 0x00000000#32) x) : EReal) = x := fun x => by
    have h1 : FloatOps.cmpf (F := Ideal) (φ := .f32) .une x x = 0#1 := by
      show Ideal.cmp .une x x = 0#1
      simp [Ideal.cmp]
    rw [h1]
    show (Scalar.select (Ideal.cmp .oeq x (FloatOps.ofBits (F := Ideal) .f32 0x00000000#32)) (FloatOps.ofBits (F := Ideal) .f32 0x00000000#32) x : EReal) = x
    generalize (FloatOps.ofBits (F := Ideal) .f32 0x00000000#32 : EReal) = z
    unfold Scalar.select Ideal.cmp
    by_cases hx : x = z
    · rw [hx]; simp
    · simp [hx]
  rw [h l, h r]
  rfl

variable {R C G : ℕ}

theorem along_ix2 (r : Fin R) (j k : Fin C) : (ix2 r j).along (1 : Fin 2) k = ix2 r k := by
  funext a
  match a with
  | ⟨0, _⟩ => rfl
  | ⟨1, _⟩ => rfl

theorem along_ix3 (r : Fin R) (q : Fin G) (j k : Fin C) : (ix3 r q j).along (2 : Fin 3) k = ix3 r q k := by
  funext a
  match a with
  | ⟨0, _⟩ => rfl
  | ⟨1, _⟩ => rfl
  | ⟨2, _⟩ => rfl

/-- A sort of an array's rows, at an index. -/
theorem sort_row (cmp : EReal → EReal → BitVec 1) (hc : ∀ l r, cmp l r = Ideal.cmp .olt l r)
    (x : (⟨2, ![R, C]⟩ : Shape).Idx → EReal) (r : Fin R) (j : Fin C) :
    Host.sort ⟨2, ![R, C]⟩ 1 cmp x (ix2 r j) = x (ix2 r (order (fun c => x (ix2 r c)) j)) := by
  obtain rfl : cmp = Ideal.cmp .olt := funext fun l => funext fun r => hc l r
  unfold Host.sort
  rw [dif_pos (by decide : 1 < 2)]
  have h : ∀ k : Fin C, (ix2 r j).along (⟨1, Nat.lt_succ_self 1⟩ : Fin 2) k = ix2 r k := along_ix2 r j
  exact (congrArg x (h _)).trans (congrArg (fun g => x (ix2 r (sortedFrom g j)))
    (funext fun a => funext fun b => by rw [h a, h b]))

/-- The same for an array of rank three, along its last axis. -/
theorem sort_row3 (cmp : EReal → EReal → BitVec 1) (hc : ∀ l r, cmp l r = Ideal.cmp .olt l r)
    (x : (⟨3, ![R, G, C]⟩ : Shape).Idx → EReal) (r : Fin R) (q : Fin G) (j : Fin C) :
    Host.sort ⟨3, ![R, G, C]⟩ 2 cmp x (ix3 r q j) = x (ix3 r q (order (fun c => x (ix3 r q c)) j)) := by
  obtain rfl : cmp = Ideal.cmp .olt := funext fun l => funext fun r => hc l r
  unfold Host.sort
  rw [dif_pos (by decide : 2 < 3)]
  have h : ∀ k : Fin C, (ix3 r q j).along (⟨2, Nat.lt_succ_self 2⟩ : Fin 3) k = ix3 r q k := along_ix3 r q j
  exact (congrArg x (h _)).trans (congrArg (fun g => x (ix3 r q (sortedFrom g j)))
    (funext fun a => funext fun b => by rw [h a, h b]))

/-- A sort of an array's rows that carries a second array along: the second array at an index. -/
theorem sort2_row {β : Type} (cmp : EReal × β → EReal × β → BitVec 1) (hc : ∀ l r, cmp l r = Ideal.cmp .olt l.1 r.1)
    (x : (⟨2, ![R, C]⟩ : Shape).Idx → EReal) (y : (⟨2, ![R, C]⟩ : Shape).Idx → β) (r : Fin R) (j : Fin C) :
    (Host.sort2 ⟨2, ![R, C]⟩ 1 cmp x y).2 (ix2 r j) = y (ix2 r (order (fun c => x (ix2 r c)) j)) := by
  obtain rfl : cmp = fun l r => Ideal.cmp .olt l.1 r.1 := funext fun l => funext fun r => hc l r
  unfold Host.sort2
  rw [dif_pos (by decide : 1 < 2)]
  have h : ∀ k : Fin C, (ix2 r j).along (⟨1, Nat.lt_succ_self 1⟩ : Fin 2) k = ix2 r k := along_ix2 r j
  exact (congrArg y (h _)).trans (congrArg (fun g => y (ix2 r (sortedFrom g j)))
    (funext fun a => funext fun b => by rw [h a, h b]))

/-! ## What a sorted row says -/

/-- Where the first `k` steps down a sorted row are strict, exactly `k` values of the row are above entry `k`. -/
theorem card_above {n : ℕ} (f : Fin n → EReal) (p : Fin n → Fin n) (hp : Function.Surjective p)
    (ha : ∀ i j, i ≤ j → f (p j) ≤ f (p i)) (k : Fin n)
    (hs : ∀ j : Fin n, ∀ h : j < k, f (p ⟨j.val + 1, lt_of_le_of_lt h k.isLt⟩) < f (p j)) :
    (above f (f (p k))).card = k.val := by
  have hstrict : ∀ i j : Fin n, i < j → j ≤ k → f (p j) < f (p i) := fun i j hij hjk => by
    have hik : i < k := lt_of_lt_of_le hij hjk
    exact lt_of_le_of_lt (ha ⟨i.val + 1, lt_of_le_of_lt hik k.isLt⟩ j hij) (hs i hik)
  have he : above f (f (p k)) = (Finset.univ : Finset (Fin k.val)).image fun j => f (p (j.castLE k.isLt.le)) := by
    ext w
    rw [mem_above, Finset.mem_image]
    constructor
    · rintro ⟨⟨i, rfl⟩, hw⟩
      obtain ⟨j, rfl⟩ := hp i
      have hj : j < k := by
        by_contra hj
        exact absurd (ha k j (not_lt.mp hj)) (not_le.mpr hw)
      exact ⟨⟨j.val, hj⟩, Finset.mem_univ _, rfl⟩
    · rintro ⟨j, _, rfl⟩
      exact ⟨⟨_, rfl⟩, hstrict _ k j.isLt le_rfl⟩
  rw [he, Finset.card_image_of_injective, Finset.card_univ, Fintype.card_fin]
  intro i j hij
  by_contra hne
  rcases lt_or_gt_of_ne hne with h | h
  · exact absurd hij (hstrict (i.castLE k.isLt.le) (j.castLE k.isLt.le) h j.isLt.le).ne'
  · exact absurd hij (hstrict (j.castLE k.isLt.le) (i.castLE k.isLt.le) h i.isLt.le).ne

/-- Where entry `d` of the sorted group is below `s`, at most the `n - d - 1` values after it reach `s`. -/
theorem card_upTo {n : ℕ} (h : Fin n → EReal) (s : EReal) (d : Fin n) (hd : h (order h d) < s) :
    (upTo h s).card ≤ n - (d.val + 1) := by
  have hsub : upTo h s ⊆ (Finset.univ : Finset (Fin (n - (d.val + 1)))).image fun j => h (order h ⟨d.val + 1 + j.val, by omega⟩) := by
    intro w hw
    obtain ⟨⟨i, rfl⟩, hl⟩ := mem_upTo.mp hw
    obtain ⟨j, rfl⟩ := (order_bijective h).2 i
    have hj : d < j := by
      by_contra hj
      exact absurd (lt_of_le_of_lt (order_mono h (not_lt.mp hj)) hd) (not_lt.mpr hl)
    rw [Finset.mem_image]
    refine ⟨⟨j.val - (d.val + 1), by have := j.isLt; have : d.val < j.val := hj; omega⟩, Finset.mem_univ _, ?_⟩
    refine congrArg (fun a => h (order h a)) (Fin.ext ?_)
    have : d.val < j.val := hj
    show d.val + 1 + (j.val - (d.val + 1)) = j.val
    omega
  refine (Finset.card_le_card hsub).trans (Finset.card_image_le.trans ?_)
  rw [Finset.card_univ, Fintype.card_fin]

end Cert.Proof

end
-- ==== Proof.Ref.lean ====
/-
  The reference read at an index: entry `k` of row `r` is the row's value at the position that the stable order of the
  negated row puts at `k`.
-/
module

public import proofs.«01_k».proof.Proof.Order
public import proofs.«01_k».proof.Proof.Gen.ReferenceIdeal.Read
public import Idealize.ShloMosaic.Lib.ReduceAll

@[expose] public section

set_option maxRecDepth 65536

noncomputable section

namespace Cert.Proof

open Cert.ReferenceIdeal Cert.ReferenceIdeal.Gen Cert.ReferenceIdeal.Read
open Idealize.ShloMosaic Idealize.ShloMosaic.ValueIdx

/-- The argument of the reference. -/
abbrev RefArg : Type := FVec Ideal S1024x65536 .f32

/-- A row of the argument, and the row negated. -/
def rowOf (x : RefArg) (r : Fin 1024) : Fin 65536 → EReal := fun c => x (ix2 r c)
def negRow (x : RefArg) (r : Fin 1024) : Fin 65536 → EReal := fun c => -(x (ix2 r c) : EReal)

/-- The positions of a row, greatest value first. -/
def place (x : RefArg) (r : Fin 1024) : Fin 65536 → Fin 65536 := order (negRow x r)

/-- The row at its `k`-th position. -/
def ranked (x : RefArg) (r : Fin 1024) (k : Fin 65536) : EReal := rowOf x r (place x r k)

/-- A result's column as a position of the row. -/
def wide (k : Fin 32) : Fin 65536 := k.castLE (by decide)

/-! ## The positions -/

/-- The reference's comparison of two entries with their positions. -/
theorem comparator_pair (l r : EReal × BitVec 32) : comparator_f32_i32_d1 (F := Ideal) l r = Ideal.cmp .olt l.1 r.1 := by
  unfold comparator_f32_i32_d1
  exact comparator_eq l.1 r.1

/-- The reference's order of the positions. -/
theorem v1_apply (x : RefArg) (r : Fin 1024) (j : Fin 65536) :
    val_main_v1 (F := Ideal) x (ix2 r j) = BitVec.ofNat 32 (place x r j).val := by
  unfold val_main_v1
  generalize hy : val_main_call0_v0 (F := Ideal) = y
  refine (sort2_row (R := 1024) (C := 65536) _ comparator_pair (val_main_v0 (F := Ideal) x) y r j).trans ?_
  subst hy
  rw [val_main_call0_v0_apply]
  rfl

theorem v2_apply (x : RefArg) (r : Fin 1024) (k : Fin 32) :
    val_main_v2 (F := Ideal) x (ix2 r k) = BitVec.ofNat 32 (place x r (wide k)).val := by
  rw [val_main_v2_apply, ← v1_apply]
  refine congrArg (val_main_v1 (F := Ideal) x) (funext fun a => ?_)
  match a with
  | ⟨0, _⟩ => rfl
  | ⟨1, _⟩ => rfl

/-- A position as a word is not negative and at most the last column. -/
theorem word_facts (n : Fin 65536) :
    IntOp.cmpi .slt (BitVec.ofNat 32 n.val) 0#32 = 0#1 ∧ IntOp.cmpi .sge (BitVec.ofNat 32 n.val) 0#32 = 1#1
      ∧ IntOp.cmpi .sle (BitVec.ofNat 32 n.val) 65535#32 = 1#1 ∧ (BitVec.ofNat 32 n.val).toInt.toNat = n.val := by
  have hn := n.isLt
  have h : (BitVec.ofNat 32 n.val).toInt = (n.val : ℤ) := by
    rw [BitVec.toInt_eq_toNat_cond, BitVec.toNat_ofNat, Nat.mod_eq_of_lt (by omega), if_pos (by omega)]
  refine ⟨?_, ?_, ?_, by rw [h]; rfl⟩ <;> unfold IntOp.cmpi <;> simp [BitVec.slt, BitVec.sle, h]
  · rw [decide_eq_false (by omega)]; rfl
  · rw [decide_eq_true (by omega)]; rfl

theorem v4_apply (x : RefArg) (r : Fin 1024) (k : Fin 32) :
    val_main_call1_v4 (F := Ideal) x (ix2 r k) = BitVec.ofNat 32 (place x r (wide k)).val := by
  rw [val_main_call1_v4_apply, val_main_call1_v1_apply, v2_apply, val_main_call1_v0_apply, val_main_call1_c_apply,
    (word_facts _).1]
  exact select_zero _ _

/-- The gathered positions. -/
theorem v5_apply (x : RefArg) (r : Fin 1024) (k : Fin 32) (z : Fin 1) :
    val_main_call1_v5 (F := Ideal) x (ix3 r k z) = BitVec.ofNat 32 (place x r (wide k)).val := by
  rw [val_main_call1_v5_apply, ← v4_apply]
  refine congrArg (val_main_call1_v4 (F := Ideal) x) (funext fun a => ?_)
  have hz : z.val = 0 := by omega
  match a with
  | ⟨0, _⟩ => exact Fin.ext (by show ((r.val * 32 + k.val) * 1 + z.val) / 32 = r.val; omega)
  | ⟨1, _⟩ => exact Fin.ext (by show ((r.val * 32 + k.val) * 1 + z.val) % 32 = k.val; omega)

/-- Every position is inside the row. -/
theorem v12_apply (x : RefArg) (i : S1024x32.Idx) : val_main_call1_v12 (F := Ideal) x i = 1#1 := by
  unfold val_main_call1_v12
  refine Host.reduce_andi_one _ _ _ _ _ rfl fun j => ?_
  obtain ⟨a, b, c, rfl⟩ : ∃ (a : Fin 1024) (b : Fin 32) (c : Fin 1), j = ix3 a b c := ⟨_, _, _, eq_ix3 j⟩
  rw [val_main_call1_v11_apply, val_main_call1_v7_apply, val_main_call1_v10_apply, val_main_call1_v6_apply, val_main_call1_c_2_apply,
    val_main_call1_v9_apply, val_main_call1_v8_apply, val_main_call1_c_1_apply, v5_apply, (word_facts _).2.1, (word_facts _).2.2.1]
  rfl

/-! ## The gather -/

/-- The gather takes from row `r` the column that its index names. -/
theorem gather_apply (x : RefArg) (idx : IVec S1024x32x1 32) (r : Fin 1024) (k : Fin 32) (n : Fin 65536)
    (hn : (idx (ix3 r k (0 : Fin 1))).toInt.toNat = n.val) :
    Host.gather gather_S1024x65536_S1024x32x1_S1024x32_n_1_0_0_1_2_11 x idx (ix2 r k) = x (ix2 r n) := by
  unfold Host.gather
  refine congrArg x (funext fun a => Fin.ext ?_)
  generalize hd : gather_S1024x65536_S1024x32x1_S1024x32_n_1_0_0_1_2_11 = d
  show d.start (ix2 r k) idx a + d.batchCoord (ix2 r k) a + d.offCoord (ix2 r k) a = _
  subst hd
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    unfold GatherDims.batchCoord
    rw [dif_pos (show (0 : Fin 2) ∈ gather_S1024x65536_S1024x32x1_S1024x32_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x65536_S1024x32x1_S1024x32_n_1_0_0_1_2_11.startIndexMap from List.mem_singleton.mpr rfl)]
    have hsi : gather_S1024x65536_S1024x32x1_S1024x32_n_1_0_0_1_2_11.siIdx (ix2 r k)
        ⟨List.idxOf (1 : Fin 2) gather_S1024x65536_S1024x32x1_S1024x32_n_1_0_0_1_2_11.startIndexMap,
          List.idxOf_lt_length_iff.2 (List.mem_singleton.mpr rfl)⟩ = ix3 r k (0 : Fin 1) := by
      funext b
      refine Fin.ext ?_
      match b with
      | ⟨0, _⟩ => rfl
      | ⟨1, _⟩ => rfl
      | ⟨2, _⟩ => rfl
    rw [hsi, hn]
    have := n.isLt
    show min n.val (65536 - 1) = n.val
    omega

/-- The reference at an index. -/
theorem reference_apply (x : RefArg) (r : Fin 1024) (k : Fin 32) : val_main_v3 (F := Ideal) x (ix2 r k) = ranked x r (wide k) := by
  rw [val_main_v3_apply, v12_apply]
  refine (select_one _ _).trans ?_
  unfold val_main_call1_v13
  refine gather_apply x _ r k (place x r (wide k)) ?_
  rw [v5_apply]
  exact (word_facts _).2.2.2

/-! ## The ranked row -/

theorem place_surjective (x : RefArg) (r : Fin 1024) : Function.Surjective (place x r) := (order_bijective _).2

/-- The ranked row falls. -/
theorem ranked_anti (x : RefArg) (r : Fin 1024) (i j : Fin 65536) (h : i ≤ j) : rowOf x r (place x r j) ≤ rowOf x r (place x r i) :=
  EReal.neg_le_neg_iff.mp (order_mono (negRow x r) h)

end Cert.Proof

end
-- ==== Proof.Mask.lean ====
/-
  What an entry's mask says: the row falls strictly down to the entry, and in every group of 256 neighbouring columns the
  ninth-greatest value is below it.
-/
module

public import proofs.«01_k».proof.On_exact_entries
public import proofs.«01_k».proof.Proof.Ref

@[expose] public section

set_option maxRecDepth 65536

noncomputable section

namespace Cert.Proof

open Cert.On_exact_entries
open Idealize.ShloMosaic Idealize.ShloMosaic.ValueIdx

/-- The relations of shapes that the mask's operations take. -/
instance factsMask : Cert.On_exact_entries.Facts where
  slices_S1024x65536_S1024x32_0_0 := by decide
  slices_S1024x32_S1024x31_0_1 := by decide
  slices_S1024x32_S1024x31_0_0 := by decide
  bcast_S1024x31_S1024x32x31_0_2 := by decide
  bcast_S32x31_S1024x32x31_1_2 := by decide
  reducesTo_S1024x32x31_S1024x32_d2 := by decide
  h_S_ := by decide
  shapeCasts_S1024x65536_S1024x256x256 := by decide
  slices_S1024x256x256_S1024x256x1_0_0_247 := by decide
  shapeCasts_S1024x256x1_S1024x256 := by decide
  bcast_S1024x256_S1024x32x256_0_2 := by decide
  bcast_S1024x32_S1024x32x256_0_1 := by decide
  reducesTo_S1024x32x256_S1024x32_d2 := by decide

open Cert.On_exact_entries.Facts

/-- Group `q` of row `r`: 256 neighbouring columns. -/
def group (x : RefArg) (r : Fin 1024) (q : Fin 256) : Fin 256 → EReal :=
  fun i => rowOf x r ⟨q.val * 256 + i.val, by omega⟩

/-! ## The two parts of the mask -/

/-- The greatest values of the rows, as the mask computes them. -/
def tops (x : RefArg) : FVec Ideal S1024x32 .f32 :=
  Host.negf (extractStridedSlice S1024x32 ![0, 0] (Host.sort S1024x65536 1 (comparator_f32_d1 (F := Ideal)) (Host.negf x)) slices_S1024x65536_S1024x32_0_0)

/-- Where a step down is strict or lies past the entry. -/
def steps (x : RefArg) : IVec S1024x32x31 1 :=
  ori (broadcastInDim S1024x32x31 ![0, 2] bcast_S1024x31_S1024x32x31_0_2
      (cmpf .olt (extractStridedSlice S1024x31 ![0, 1] (tops x) slices_S1024x32_S1024x31_0_1) (extractStridedSlice S1024x31 ![0, 0] (tops x) slices_S1024x32_S1024x31_0_0)))
    (broadcastInDim S1024x32x31 ![1, 2] bcast_S32x31_S1024x32x31_1_2 (cmpi .sge (iotaInDim S32x31 32 1) (iotaInDim S32x31 32 0)))

/-- The ninth-greatest value of every group. -/
def ninths (x : RefArg) : FVec Ideal S1024x256 .f32 :=
  shapeCast S1024x256 (extractStridedSlice S1024x256x1 ![0, 0, 247]
    (Host.sort S1024x256x256 2 (comparator_f32_d2 (F := Ideal)) (shapeCast S1024x256x256 x shapeCasts_S1024x65536_S1024x256x256))
    slices_S1024x256x256_S1024x256x1_0_0_247) shapeCasts_S1024x256x1_S1024x256

/-- Where a group's ninth-greatest value is below the entry. -/
def rooms (x : RefArg) : IVec S1024x32x256 1 :=
  cmpf .olt (broadcastInDim S1024x32x256 ![0, 2] bcast_S1024x256_S1024x32x256_0_2 (ninths x))
    (broadcastInDim S1024x32x256 ![0, 1] bcast_S1024x32_S1024x32x256_0_1 (tops x))

/-- The mask is the conjunction of the two parts. -/
theorem mask_eq (x : RefArg) : Cert.On_exact_entries.fn (F := Ideal) x
    = andi (Host.reduce IntOp.andi (steps x) (constantI S_ 1 1#1) reducesTo_S1024x32x31_S1024x32_d2 h_S_)
        (Host.reduce IntOp.andi (rooms x) (constantI S_ 1 1#1) reducesTo_S1024x32x256_S1024x32_d2 h_S_) := rfl

/-- Where the mask is set, both parts are set throughout. -/
theorem mask_parts (x : RefArg) (r : Fin 1024) (k : Fin 32) (h : Cert.On_exact_entries.fn (F := Ideal) x (ix2 r k) = 1#1) :
    (∀ j : Fin 31, steps x (ix3 r k j) = 1#1) ∧ ∀ q : Fin 256, rooms x (ix3 r k q) = 1#1 := by
  rw [mask_eq] at h
  obtain ⟨h1, h2⟩ := IntOp.andi_eq_one.1 h
  refine ⟨fun j => Host.reduce_andi_eq_one _ _ _ _ _ h1 _ ?_, fun q => Host.reduce_andi_eq_one _ _ _ _ _ h2 _ ?_⟩
  · funext a
    match a with
    | ⟨0, _⟩ => rfl
    | ⟨1, _⟩ => rfl
  · funext a
    match a with
    | ⟨0, _⟩ => rfl
    | ⟨1, _⟩ => rfl

/-! ## The parts at an index -/

/-- The mask's two comparisons are the order of the extended reals. -/
theorem comparator_one (l r : EReal) : comparator_f32_d1 (F := Ideal) l r = Ideal.cmp .olt l r := by
  unfold comparator_f32_d1
  exact comparator_eq l r

theorem comparator_two (l r : EReal) : comparator_f32_d2 (F := Ideal) l r = Ideal.cmp .olt l r := by
  unfold comparator_f32_d2
  exact comparator_eq l r

/-- The greatest values are the reference's. -/
theorem tops_apply (x : RefArg) (r : Fin 1024) (k : Fin 32) : tops x (ix2 r k) = ranked x r (wide k) := by
  unfold tops
  show -(extractStridedSlice S1024x32 ![0, 0] (Host.sort S1024x65536 1 (comparator_f32_d1 (F := Ideal)) (Host.negf x)) slices_S1024x65536_S1024x32_0_0 (ix2 r k) : EReal) = _
  rw [extractStridedSlice_apply ![0, 0] _ slices_S1024x65536_S1024x32_0_0 (ix2 r k) (ix2 r (wide k)) (fun a => match a with
    | ⟨0, _⟩ => by show r.val = 0 + r.val; omega
    | ⟨1, _⟩ => by show k.val = 0 + k.val; omega)]
  rw [sort_row (R := 1024) (C := 65536) _ comparator_one (Host.negf (F := Ideal) x) r (wide k)]
  exact neg_neg _

/-- A step before the entry is strict. -/
theorem steps_apply (x : RefArg) (r : Fin 1024) (k : Fin 32) (j : Fin 31) (h : steps x (ix3 r k j) = 1#1) (hjk : j.val < k.val) :
    ranked x r ⟨j.val + 1, by omega⟩ < ranked x r ⟨j.val, by omega⟩ := by
  unfold steps at h
  rcases IntOp.ori_eq_one.1 h with h | h
  · rw [broadcastInDim_apply _ bcast_S1024x31_S1024x32x31_0_2 _ (ix3 r k j) (ix2 r j) (fun a => match a with
      | ⟨0, _⟩ => rfl
      | ⟨1, _⟩ => rfl)] at h
    have h := lt_of_cmp h
    rw [extractStridedSlice_apply ![0, 1] _ slices_S1024x32_S1024x31_0_1 (ix2 r j) (ix2 r (⟨j.val + 1, by omega⟩ : Fin 32)) (fun a => match a with
        | ⟨0, _⟩ => by show r.val = 0 + r.val; omega
        | ⟨1, _⟩ => by show j.val + 1 = 1 + j.val; omega),
      extractStridedSlice_apply ![0, 0] _ slices_S1024x32_S1024x31_0_0 (ix2 r j) (ix2 r (⟨j.val, by omega⟩ : Fin 32)) (fun a => match a with
        | ⟨0, _⟩ => by show r.val = 0 + r.val; omega
        | ⟨1, _⟩ => by show j.val = 0 + j.val; omega), tops_apply, tops_apply] at h
    exact h
  · rw [broadcastInDim_apply _ bcast_S32x31_S1024x32x31_1_2 _ (ix3 r k j) (ix2 k j) (fun a => match a with
      | ⟨0, _⟩ => rfl
      | ⟨1, _⟩ => rfl)] at h
    exfalso
    have hw : ∀ n : ℕ, n < 32 → (BitVec.ofNat 32 n).toInt = (n : ℤ) := fun n hn => by
      rw [BitVec.toInt_eq_toNat_cond, BitVec.toNat_ofNat, Nat.mod_eq_of_lt (by omega), if_pos (by omega)]
    have hle : (BitVec.ofNat 32 k.val).toInt ≤ (BitVec.ofNat 32 j.val).toInt := IntOp.cmpi_sge.1 h
    rw [hw _ k.isLt, hw _ (by omega)] at hle
    omega

/-- The ninth-greatest value of a group is entry 247 of the group sorted upwards. -/
theorem ninths_apply (x : RefArg) (r : Fin 1024) (q : Fin 256) :
    ninths x (ix2 r q) = group x r q (order (group x r q) 247) := by
  have hs : ∀ c : Fin 256, shapeCast S1024x256x256 x shapeCasts_S1024x65536_S1024x256x256 (ix3 r q c) = group x r q c := fun c =>
    shapeCast_apply x _ (ix3 r q c) (ix2 r (⟨q.val * 256 + c.val, by omega⟩ : Fin 65536)) (by
      rw [Shape.rowMajor_val_two, Shape.rowMajor_val_three]
      show r.val * 65536 + (q.val * 256 + c.val) = (r.val * 256 + q.val) * 256 + c.val
      omega)
  unfold ninths
  rw [shapeCast_apply _ shapeCasts_S1024x256x1_S1024x256 (ix2 r q) (ix3 r q (0 : Fin 1)) (by
      rw [Shape.rowMajor_val_two, Shape.rowMajor_val_three]
      show (r.val * 256 + q.val) * 1 + 0 = r.val * 256 + q.val
      omega),
    extractStridedSlice_apply ![0, 0, 247] _ slices_S1024x256x256_S1024x256x1_0_0_247 (ix3 r q (0 : Fin 1)) (ix3 r q (247 : Fin 256)) (fun a => match a with
      | ⟨0, _⟩ => by show r.val = 0 + r.val; omega
      | ⟨1, _⟩ => by show q.val = 0 + q.val; omega
      | ⟨2, _⟩ => rfl),
    sort_row3 (R := 1024) (G := 256) (C := 256) _ comparator_two _ r q 247, hs]
  exact congrArg (fun f => group x r q (order f 247)) (funext hs)

/-- The ninth-greatest value of every group is below the entry. -/
theorem rooms_apply (x : RefArg) (r : Fin 1024) (k : Fin 32) (q : Fin 256) (h : rooms x (ix3 r k q) = 1#1) :
    group x r q (order (group x r q) 247) < ranked x r (wide k) := by
  unfold rooms at h
  have h := lt_of_cmp h
  rw [broadcastInDim_apply _ bcast_S1024x256_S1024x32x256_0_2 _ (ix3 r k q) (ix2 r q) (fun a => match a with
      | ⟨0, _⟩ => rfl
      | ⟨1, _⟩ => rfl),
    broadcastInDim_apply _ bcast_S1024x32_S1024x32x256_0_1 _ (ix3 r k q) (ix2 r k) (fun a => match a with
      | ⟨0, _⟩ => rfl
      | ⟨1, _⟩ => rfl), ninths_apply, tops_apply] at h
  exact h

end Cert.Proof

end
-- ==== Proof.Equal.lean ====
/-
  The value claim: where the mask is set, every device ends with the reference's value.
-/
module

public import proofs.«01_k».proof.Defs
public import proofs.«01_k».proof.Proof.Frames
public import proofs.«01_k».proof.Proof.Reads
public import proofs.«01_k».proof.Proof.Mask

@[expose] public section

set_option maxRecDepth 65536

noncomputable section

namespace Cert.Proof

open Cert.KernelIdeal Cert.KernelIdeal.Gen
open Idealize.ShloMosaic hiding ix1 ix2 ix3
open Idealize.ShloMosaic.ValueIdx
open Idealize.ShloMosaic.TcCoe

variable (m : (ℓ : Loc nD τ sig) → Buf (Elt Ideal) ℓ) (x : RefArg)

/-- Candidate `32 j + p` of a block comes from pool `p` and round `j`. -/
def byPool : Fin 256 ≃ Fin 32 × Fin 8 where
  toFun r := (⟨r.val % 32, by omega⟩, ⟨r.val / 32, by omega⟩)
  invFun a := ⟨a.2.val * 32 + a.1.val, by omega⟩
  left_inv r := Fin.ext (by show r.val / 32 * 32 + r.val % 32 = r.val; omega)
  right_inv a := Prod.ext (Fin.ext (by show (a.2.val * 32 + a.1.val) % 32 = a.1.val; omega))
    (Fin.ext (by show (a.2.val * 32 + a.1.val) / 32 = a.2.val; omega))

/-- Gathered candidate `32 d + k` comes from device `d` and round `k`. -/
def byDev : Fin 256 ≃ Dev nD × Fin 32 where
  toFun l := (fromDev l, fromRound l)
  invFun a := ⟨a.1.val * 32 + a.2.val, by have : a.1.val < 8 := a.1.isLt; omega⟩
  left_inv l := Fin.ext (by show l.val / 32 * 32 + l.val % 32 = l.val; omega)
  right_inv a := Prod.ext (Fin.ext (by show (a.1.val * 32 + a.2.val) / 32 = a.1.val; omega))
    (Fin.ext (by show (a.1.val * 32 + a.2.val) % 32 = a.2.val; omega))

/-- Every device holds its block of the columns of `x`. -/
def Split : Prop := ∀ (c : Dev nD) (r : Fin 1024) (j : Fin 8192),
  (argOf m c (ix2 r j) : EReal) = rowOf x r ⟨c.val * 8192 + j.val, by have : c.val < 8 := c.isLt; omega⟩

variable {m x}

/-- Pool `q` of device `c`, at row `r`. -/
def pool (m : (ℓ : Loc nD τ sig) → Buf (Elt Ideal) ℓ) (r : Fin 1024) (c : Dev nD) (q : Fin 32) (i : Fin 256) : EReal :=
  argOf m c (ix2 r (⟨q.val * 256 + i.val, by omega⟩ : Fin 8192))

/-- The pools of a device are the groups of the row. -/
theorem pool_eq (h : Split m x) (r : Fin 1024) (c : Dev nD) (q : Fin 32) :
    pool m r c q = group x r ⟨c.val * 32 + q.val, by have : c.val < 8 := c.isLt; omega⟩ := by
  funext i
  refine (h c r _).trans (congrArg (rowOf x r) (Fin.ext ?_))
  show c.val * 8192 + (q.val * 256 + i.val) = (c.val * 32 + q.val) * 256 + i.val
  omega

/-- The devices' pools together hold the row's values. -/
theorem pool_values (h : Split m x) (r : Fin 1024) (w : EReal) :
    (∃ p : Dev nD × Fin 32 × Fin 256, pool m r p.1 p.2.1 p.2.2 = w) ↔ ∃ n, rowOf x r n = w := by
  constructor
  · rintro ⟨⟨c, q, i⟩, rfl⟩
    exact ⟨_, (h c r _).symm⟩
  · rintro ⟨n, rfl⟩
    have hn := n.isLt
    refine ⟨(⟨n.val / 8192, by show n.val / 8192 < 8; omega⟩, ⟨n.val % 8192 / 256, by omega⟩, ⟨n.val % 256, by omega⟩), ?_⟩
    refine (h _ r _).trans (congrArg (rowOf x r) (Fin.ext ?_))
    show n.val / 8192 * 8192 + (n.val % 8192 / 256 * 256 + n.val % 256) = n.val
    omega

/-- Where the mask is set, what the second kernel leaves is the reference's value. -/
theorem best_eq_ranked (h : Split m x) (c : Dev nD) (r : Fin 1024) (k : Fin 32)
    (hm : Cert.On_exact_entries.fn (F := Ideal) x (ix2 r k) = 1#1) : (best m c (ix2 k r) : EReal) = ranked x r (wide k) := by
  obtain ⟨h1, h2⟩ := mask_parts x r k hm
  have hroom := fun q => rooms_apply x r k q (h2 q)
  rw [best_apply]
  refine three_stages (pool m r) 8 32 k.val (ranked x r (wide k)) (ne_bot_of_gt (hroom 0)) ?_ ?_ k.isLt (fun d q => ?_)
    (fun d => pooled (argOf m d) r) byPool (fun d j => rfl) _ byDev (fun l => rfl)
  · obtain ⟨⟨d, q, i⟩, hp⟩ := (pool_values h r _).2 ⟨place x r (wide k), rfl⟩
    exact ⟨d, q, i, hp⟩
  · have hv : above (fun p : Dev nD × Fin 32 × Fin 256 => pool m r p.1 p.2.1 p.2.2) (ranked x r (wide k))
        = above (rowOf x r) (ranked x r (wide k)) := by
      ext w
      rw [mem_above, mem_above, pool_values h r w]
    rw [hv]
    exact card_above (rowOf x r) (place x r) (place_surjective x r) (ranked_anti x r) (wide k) fun j hj => by
      have hj' : j.val < k.val := hj
      exact steps_apply x r k ⟨j.val, by omega⟩ (h1 _) hj'
  · rw [pool_eq h r d q]
    exact card_upTo _ _ (247 : Fin 256) (hroom _)

/-- The kernel over extended reals and the reference leave the same values where the mask is set. -/
theorem value_claim : Cert.algebraic_KernelIdeal_ReferenceIdeal_on_exact_entries := by
  intro m g m' g' _ hargs
  refine ⟨Cert.ReferenceIdeal.Read.val_main_v3 (F := Ideal) (m' (((0 : Dev Cert.ReferenceIdeal.nD).tc : Thread Cert.ReferenceIdeal.nD Cert.ReferenceIdeal.τ).loc Cert.ReferenceIdeal.main_arg0)), ?_, ?_⟩
  · generalize m' (((0 : Dev Cert.ReferenceIdeal.nD).tc : Thread Cert.ReferenceIdeal.nD Cert.ReferenceIdeal.τ).loc Cert.ReferenceIdeal.main_arg0) = x at hargs ⊢
    have hs : Split m x := fun c r j => by
      refine (congrFun (hargs c) (ix2 r j)).trans (congrArg x (funext fun a => ?_))
      match a with
      | ⟨0, _⟩ => rfl
      | ⟨1, _⟩ => rfl
    refine (θ_run Cert.KernelIdeal.defs _ _).mono (fun r hr c => ⟨fun i hi => ?_, (hr.1 c).1⟩) (run_main (F := Ideal) m g)
    obtain ⟨a, b, rfl⟩ : ∃ (a : Fin 1024) (b : Fin 32), i = ix2 a b := ⟨_, _, ValueIdx.eq_ix2 i⟩
    refine (congrFun (hr.1 c).2 (ix2 a b)).trans ?_
    refine (transpose_apply _ _ _ (ix2 a b) (ix2 b a) (fun d => match d with
      | ⟨0, _⟩ => rfl
      | ⟨1, _⟩ => rfl)).trans ?_
    exact (best_eq_ranked hs c a b hi).trans (reference_apply x a b).symm
  · exact (θ_run Cert.ReferenceIdeal.defs _ _).mono
      (fun r h => ⟨fun i _ => congrFun ((h 0).1.trans (Cert.ReferenceIdeal.Read.val_main_v3_eq _)) i, (h 0).2⟩)
      (Cert.ReferenceIdeal.Value.run (F := Ideal) m' g')

end Cert.Proof

end
-- ==== Proof.lean ====
/-
  The claims together: three frames, the program over extended reals is the program's own text, and it computes the
  reference's values at the entries that the mask selects.
-/
module

public import proofs.«01_k».proof.Defs
public import proofs.«01_k».proof.Proof.Frames
public import proofs.«01_k».proof.Proof.Equal
public import proofs.«01_k».proof.Proof.Gen.ReferenceIdeal.Read
public import proofs.«01_k».proof.On_exact_entries

@[expose] public section

noncomputable section

namespace Cert.Proof

/-- Everything that is claimed. -/
theorem claim : Cert.Claim :=
  ⟨Cert.Kernel.Gen.facts, Cert.KernelIdeal.Gen.facts, Cert.ReferenceIdeal.Gen.facts, factsMask,
    frame_kernel, frame_kernelIdeal, frame_reference, trivial, value_claim⟩

end Cert.Proof

end
